-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x18944 : Shape := ⟨3, ![1, 256, 18944]⟩
abbrev S18944x1792 : Shape := ⟨2, ![18944, 1792]⟩
abbrev S18944x56 : Shape := ⟨2, ![18944, 56]⟩
abbrev S4144 : Shape := ⟨1, ![4144]⟩
abbrev S1 : Shape := ⟨1, ![1]⟩
abbrev S1x256x3584 : Shape := ⟨3, ![1, 256, 3584]⟩
abbrev S1x256x512 : Shape := ⟨3, ![1, 256, 512]⟩
abbrev S512x256 : Shape := ⟨2, ![512, 256]⟩
abbrev S512x56 : Shape := ⟨2, ![512, 56]⟩
abbrev S2x256x256 : Shape := ⟨3, ![2, 256, 256]⟩
abbrev S2x512x256 : Shape := ⟨3, ![2, 512, 256]⟩
abbrev S8x128 : Shape := ⟨2, ![8, 128]⟩
abbrev S32x128 : Shape := ⟨2, ![32, 128]⟩
abbrev S16x128 : Shape := ⟨2, ![16, 128]⟩
abbrev S32x56 : Shape := ⟨2, ![32, 56]⟩
abbrev S8x56 : Shape := ⟨2, ![8, 56]⟩
abbrev S32x72 : Shape := ⟨2, ![32, 72]⟩
abbrev S16x128x1 : Shape := ⟨3, ![16, 128, 1]⟩
abbrev S32x128x1 : Shape := ⟨3, ![32, 128, 1]⟩
abbrev S1x16x128 : Shape := ⟨3, ![1, 16, 128]⟩
abbrev S1x256x256 : Shape := ⟨3, ![1, 256, 256]⟩
abbrev S256x256 : Shape := ⟨2, ![256, 256]⟩
abbrev S256x512 : Shape := ⟨2, ![256, 512]⟩
abbrev S1x512x256 : Shape := ⟨3, ![1, 512, 256]⟩

abbrev nBuf : Space → Nat
  | .hbm => 6
  | .vmem => 10
  | .smem => 2
  | _ => 0

abbrev bufTy : (tb : Table) → Fin (tcTables nBuf tb) → BufTy
  | .hbm, ⟨0, _⟩ => ⟨S1x256x18944, .bf16⟩
  | .hbm, ⟨1, _⟩ => ⟨S18944x1792, .i8⟩
  | .hbm, ⟨2, _⟩ => ⟨S18944x56, .i8⟩
  | .hbm, ⟨3, _⟩ => ⟨S4144, .f32⟩
  | .hbm, ⟨4, _⟩ => ⟨S1, .f32⟩
  | .hbm, ⟨5, _⟩ => ⟨S1x256x3584, .bf16⟩
  | .local _ .vmem, ⟨0, _⟩ => ⟨S1x256x512, .bf16⟩
  | .local _ .vmem, ⟨1, _⟩ => ⟨S1x256x512, .bf16⟩
  | .local _ .vmem, ⟨2, _⟩ => ⟨S512x256, .i8⟩
  | .local _ .vmem, ⟨3, _⟩ => ⟨S512x256, .i8⟩
  | .local _ .vmem, ⟨4, _⟩ => ⟨S512x56, .i8⟩
  | .local _ .vmem, ⟨5, _⟩ => ⟨S512x56, .i8⟩
  | .local _ .vmem, ⟨6, _⟩ => ⟨S1x256x512, .bf16⟩
  | .local _ .vmem, ⟨7, _⟩ => ⟨S1x256x512, .bf16⟩
  | .local _ .vmem, ⟨8, _⟩ => ⟨S2x256x256, .f32⟩
  | .local _ .vmem, ⟨9, _⟩ => ⟨S2x512x256, .bf16⟩
  | .local _ .smem, ⟨0, _⟩ => ⟨S4144, .f32⟩
  | .local _ .smem, ⟨1, _⟩ => ⟨S1, .f32⟩
  | _, _ => ⟨S1x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![7, 37], ![false, false]⟩

def k0_off1 (i : grid0.Coords) (c0_i32_22 : BitVec 32) (c0_i32_23 : BitVec 32) : Fin 1 → Nat :=
  let arg1 : BitVec 32 := BitVec.ofNat 32 (i 1).val
  let c16_i32 : BitVec 32 := 16#32
  let v123 : BitVec 32 := Scalar.muli arg1 c16_i32
  let v124 : BitVec 32 := Scalar.addi v123 c0_i32_22
  let c7_i32 : BitVec 32 := 7#32
  let v125 : BitVec 32 := Scalar.muli v124 c7_i32
  let v126 : BitVec 32 := Scalar.addi v125 c0_i32_23
  let v127 : Index := Scalar.indexCast v126
  ![v127.toNat]
def k0_cond2 (i : grid0.Coords) : BitVec 1 :=
  let arg1 : BitVec 32 := BitVec.ofNat 32 (i 1).val
  let c36_i32 : BitVec 32 := 36#32
  let v4881 : BitVec 1 := Scalar.cmpi .eq arg1 c36_i32
  let v4882 : BitVec 32 := Scalar.extui v4881
  let c0_i32_1132 : BitVec 32 := 0#32
  let v4883 : BitVec 1 := Scalar.cmpi .ne v4882 c0_i32_1132
  v4883

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S4144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x56 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S1x256x18944 : Shape := ⟨3, ![1, 256, 18944]⟩
abbrev S18944x1792 : Shape := ⟨2, ![18944, 1792]⟩
abbrev S18944x56 : Shape := ⟨2, ![18944, 56]⟩
abbrev S4144 : Shape := ⟨1, ![4144]⟩
abbrev S1 : Shape := ⟨1, ![1]⟩
abbrev S4144x256 : Shape := ⟨2, ![4144, 256]⟩
abbrev S4144x1 : Shape := ⟨2, ![4144, 1]⟩
abbrev S_ : Shape := ⟨0, ![]⟩
abbrev S18944x56x32 : Shape := ⟨3, ![18944, 56, 32]⟩
abbrev S18944x56x1 : Shape := ⟨3, ![18944, 56, 1]⟩
abbrev S1x256x1792 : Shape := ⟨3, ![1, 256, 1792]⟩
abbrev S1x256x1792x1 : Shape := ⟨4, ![1, 256, 1792, 1]⟩
abbrev S1x256x1792x2 : Shape := ⟨4, ![1, 256, 1792, 2]⟩
abbrev S1x256x3584 : Shape := ⟨3, ![1, 256, 3584]⟩

abbrev nBuf : Space → Nat
  | .hbm => 206
  | .vmem => 0
  | .smem => 0
  | _ => 0

abbrev hbmTy0_0 (i : Nat) : BufTy := match i % 128 with
  | 0 => ⟨S1x256x18944, .bf16⟩
  | 1 => ⟨S18944x1792, .i8⟩
  | 2 => ⟨S18944x56, .i8⟩
  | 3 => ⟨S4144, .f32⟩
  | 4 => ⟨S1, .f32⟩
  | 5 => ⟨S18944x56, .i32⟩
  | 6 => ⟨S18944x56, .f32⟩
  | 7 => ⟨S4144x256, .f32⟩
  | 8 => ⟨S4144x1, .f32⟩
  | 9 => ⟨S4144x256, .f32⟩
  | 10 => ⟨S4144x256, .f32⟩
  | 11 => ⟨S_, .f32⟩
  | 12 => ⟨S4144x256, .f32⟩
  | 13 => ⟨S4144x256, .f32⟩
  | 14 => ⟨S18944x56, .f32⟩
  | 15 => ⟨S18944x56, .bf16⟩
  | 16 => ⟨S18944x1792, .i32⟩
  | 17 => ⟨S_, .i32⟩
  | 18 => ⟨S18944x1792, .i32⟩
  | 19 => ⟨S18944x1792, .i32⟩
  | 20 => ⟨S_, .i32⟩
  | 21 => ⟨S18944x1792, .i32⟩
  | 22 => ⟨S18944x1792, .i32⟩
  | 23 => ⟨S_, .i32⟩
  | 24 => ⟨S18944x1792, .i32⟩
  | 25 => ⟨S18944x1792, .i32⟩
  | 26 => ⟨S_, .i32⟩
  | 27 => ⟨S18944x1792, .i32⟩
  | 28 => ⟨S18944x1792, .i32⟩
  | 29 => ⟨S_, .i32⟩
  | 30 => ⟨S18944x1792, .i32⟩
  | 31 => ⟨S18944x1792, .i1⟩
  | 32 => ⟨S_, .i32⟩
  | 33 => ⟨S18944x1792, .i32⟩
  | 34 => ⟨S18944x1792, .i32⟩
  | 35 => ⟨S_, .i32⟩
  | 36 => ⟨S18944x1792, .i32⟩
  | 37 => ⟨S18944x1792, .i32⟩
  | 38 => ⟨S_, .i32⟩
  | 39 => ⟨S18944x1792, .i32⟩
  | 40 => ⟨S18944x1792, .i1⟩
  | 41 => ⟨S_, .i32⟩
  | 42 => ⟨S18944x1792, .i32⟩
  | 43 => ⟨S18944x1792, .i32⟩
  | 44 => ⟨S_, .i32⟩
  | 45 => ⟨S18944x1792, .i32⟩
  | 46 => ⟨S18944x1792, .i32⟩
  | 47 => ⟨S_, .i32⟩
  | 48 => ⟨S18944x1792, .i32⟩
  | 49 => ⟨S18944x1792, .i1⟩
  | 50 => ⟨S_, .i32⟩
  | 51 => ⟨S18944x1792, .i32⟩
  | 52 => ⟨S18944x1792, .i32⟩
  | 53 => ⟨S_, .i32⟩
  | 54 => ⟨S18944x1792, .i32⟩
  | 55 => ⟨S18944x1792, .i32⟩
  | 56 => ⟨S_, .i32⟩
  | 57 => ⟨S18944x1792, .i32⟩
  | 58 => ⟨S18944x1792, .i1⟩
  | 59 => ⟨S_, .bf16⟩
  | 60 => ⟨S_, .bf16⟩
  | 61 => ⟨S18944x1792, .bf16⟩
  | 62 => ⟨S18944x1792, .bf16⟩
  | 63 => ⟨S18944x1792, .bf16⟩
  | 64 => ⟨S_, .bf16⟩
  | 65 => ⟨S_, .bf16⟩
  | 66 => ⟨S18944x1792, .bf16⟩
  | 67 => ⟨S18944x1792, .bf16⟩
  | 68 => ⟨S18944x1792, .bf16⟩
  | 69 => ⟨S18944x1792, .bf16⟩
  | 70 => ⟨S_, .bf16⟩
  | 71 => ⟨S_, .bf16⟩
  | 72 => ⟨S18944x1792, .bf16⟩
  | 73 => ⟨S18944x1792, .bf16⟩
  | 74 => ⟨S18944x1792, .bf16⟩
  | 75 => ⟨S_, .bf16⟩
  | 76 => ⟨S_, .bf16⟩
  | 77 => ⟨S18944x1792, .bf16⟩
  | 78 => ⟨S18944x1792, .bf16⟩
  | 79 => ⟨S18944x1792, .bf16⟩
  | 80 => ⟨S18944x1792, .bf16⟩
  | 81 => ⟨S18944x1792, .bf16⟩
  | 82 => ⟨S_, .bf16⟩
  | 83 => ⟨S_, .bf16⟩
  | 84 => ⟨S18944x1792, .bf16⟩
  | 85 => ⟨S18944x1792, .bf16⟩
  | 86 => ⟨S18944x1792, .bf16⟩
  | 87 => ⟨S_, .bf16⟩
  | 88 => ⟨S_, .bf16⟩
  | 89 => ⟨S18944x1792, .bf16⟩
  | 90 => ⟨S18944x1792, .bf16⟩
  | 91 => ⟨S18944x1792, .bf16⟩
  | 92 => ⟨S18944x1792, .bf16⟩
  | 93 => ⟨S_, .bf16⟩
  | 94 => ⟨S_, .bf16⟩
  | 95 => ⟨S18944x1792, .bf16⟩
  | 96 => ⟨S18944x1792, .bf16⟩
  | 97 => ⟨S18944x1792, .bf16⟩
  | 98 => ⟨S_, .bf16⟩
  | 99 => ⟨S_, .bf16⟩
  | 100 => ⟨S18944x1792, .bf16⟩
  | 101 => ⟨S18944x1792, .bf16⟩
  | 102 => ⟨S18944x1792, .bf16⟩
  | 103 => ⟨S18944x1792, .bf16⟩
  | 104 => ⟨S18944x1792, .bf16⟩
  | 105 => ⟨S18944x1792, .bf16⟩
  | 106 => ⟨S18944x56x32, .bf16⟩
  | 107 => ⟨S18944x56x1, .bf16⟩
  | 108 => ⟨S18944x56x32, .bf16⟩
  | 109 => ⟨S18944x56x32, .bf16⟩
  | 110 => ⟨S18944x1792, .bf16⟩
  | 111 => ⟨S_, .i32⟩
  | 112 => ⟨S18944x1792, .i32⟩
  | 113 => ⟨S18944x1792, .i32⟩
  | 114 => ⟨S_, .i32⟩
  | 115 => ⟨S18944x1792, .i32⟩
  | 116 => ⟨S18944x1792, .i32⟩
  | 117 => ⟨S_, .i32⟩
  | 118 => ⟨S18944x1792, .i32⟩
  | 119 => ⟨S18944x1792, .i1⟩
  | 120 => ⟨S_, .i32⟩
  | 121 => ⟨S18944x1792, .i32⟩
  | 122 => ⟨S18944x1792, .i32⟩
  | 123 => ⟨S_, .i32⟩
  | 124 => ⟨S18944x1792, .i32⟩
  | 125 => ⟨S18944x1792, .i32⟩
  | 126 => ⟨S_, .i32⟩
  | 127 => ⟨S18944x1792, .i32⟩
  | _ => ⟨S1x256x18944, .bf16⟩

abbrev hbmTy0_1 (i : Nat) : BufTy := match i % 128 with
  | 0 => ⟨S18944x1792, .i1⟩
  | 1 => ⟨S_, .i32⟩
  | 2 => ⟨S18944x1792, .i32⟩
  | 3 => ⟨S18944x1792, .i32⟩
  | 4 => ⟨S_, .i32⟩
  | 5 => ⟨S18944x1792, .i32⟩
  | 6 => ⟨S18944x1792, .i32⟩
  | 7 => ⟨S_, .i32⟩
  | 8 => ⟨S18944x1792, .i32⟩
  | 9 => ⟨S18944x1792, .i1⟩
  | 10 => ⟨S_, .i32⟩
  | 11 => ⟨S18944x1792, .i32⟩
  | 12 => ⟨S18944x1792, .i32⟩
  | 13 => ⟨S_, .i32⟩
  | 14 => ⟨S18944x1792, .i32⟩
  | 15 => ⟨S18944x1792, .i32⟩
  | 16 => ⟨S_, .i32⟩
  | 17 => ⟨S18944x1792, .i32⟩
  | 18 => ⟨S18944x1792, .i1⟩
  | 19 => ⟨S_, .bf16⟩
  | 20 => ⟨S_, .bf16⟩
  | 21 => ⟨S18944x1792, .bf16⟩
  | 22 => ⟨S18944x1792, .bf16⟩
  | 23 => ⟨S18944x1792, .bf16⟩
  | 24 => ⟨S_, .bf16⟩
  | 25 => ⟨S_, .bf16⟩
  | 26 => ⟨S18944x1792, .bf16⟩
  | 27 => ⟨S18944x1792, .bf16⟩
  | 28 => ⟨S18944x1792, .bf16⟩
  | 29 => ⟨S18944x1792, .bf16⟩
  | 30 => ⟨S_, .bf16⟩
  | 31 => ⟨S_, .bf16⟩
  | 32 => ⟨S18944x1792, .bf16⟩
  | 33 => ⟨S18944x1792, .bf16⟩
  | 34 => ⟨S18944x1792, .bf16⟩
  | 35 => ⟨S_, .bf16⟩
  | 36 => ⟨S_, .bf16⟩
  | 37 => ⟨S18944x1792, .bf16⟩
  | 38 => ⟨S18944x1792, .bf16⟩
  | 39 => ⟨S18944x1792, .bf16⟩
  | 40 => ⟨S18944x1792, .bf16⟩
  | 41 => ⟨S18944x1792, .bf16⟩
  | 42 => ⟨S_, .bf16⟩
  | 43 => ⟨S_, .bf16⟩
  | 44 => ⟨S18944x1792, .bf16⟩
  | 45 => ⟨S18944x1792, .bf16⟩
  | 46 => ⟨S18944x1792, .bf16⟩
  | 47 => ⟨S_, .bf16⟩
  | 48 => ⟨S_, .bf16⟩
  | 49 => ⟨S18944x1792, .bf16⟩
  | 50 => ⟨S18944x1792, .bf16⟩
  | 51 => ⟨S18944x1792, .bf16⟩
  | 52 => ⟨S18944x1792, .bf16⟩
  | 53 => ⟨S_, .bf16⟩
  | 54 => ⟨S_, .bf16⟩
  | 55 => ⟨S18944x1792, .bf16⟩
  | 56 => ⟨S18944x1792, .bf16⟩
  | 57 => ⟨S18944x1792, .bf16⟩
  | 58 => ⟨S_, .bf16⟩
  | 59 => ⟨S_, .bf16⟩
  | 60 => ⟨S18944x1792, .bf16⟩
  | 61 => ⟨S18944x1792, .bf16⟩
  | 62 => ⟨S18944x1792, .bf16⟩
  | 63 => ⟨S18944x1792, .bf16⟩
  | 64 => ⟨S18944x1792, .bf16⟩
  | 65 => ⟨S18944x1792, .bf16⟩
  | 66 => ⟨S18944x56x32, .bf16⟩
  | 67 => ⟨S18944x56x1, .bf16⟩
  | 68 => ⟨S18944x56x32, .bf16⟩
  | 69 => ⟨S18944x56x32, .bf16⟩
  | 70 => ⟨S18944x1792, .bf16⟩
  | 71 => ⟨S1x256x1792, .f32⟩
  | 72 => ⟨S1x256x1792, .f32⟩
  | 73 => ⟨S1x256x1792x1, .f32⟩
  | 74 => ⟨S1x256x1792x1, .f32⟩
  | 75 => ⟨S1x256x1792x2, .f32⟩
  | 76 => ⟨S1x256x3584, .f32⟩
  | 77 => ⟨S1x256x3584, .bf16⟩
  | _ => ⟨S1x256x18944, .bf16⟩

abbrev hbmTy (i : Nat) : BufTy := match i / 128 with
  | 0 => hbmTy0_0 i
  | 1 => hbmTy0_1 i
  | _ => ⟨S1x256x18944, .bf16⟩

abbrev bufTy : (tb : Table) → Fin (tcTables nBuf tb) → BufTy
  | .hbm, ⟨i, _⟩ => hbmTy i
  | _, _ => ⟨S1x256x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_cst_13 : Ref sig .tc := ⟨.hbm, 60, rfl⟩
abbrev main_call0_v0 : Ref sig .tc := ⟨.hbm, 61, rfl⟩
abbrev main_call0_v1 : Ref sig .tc := ⟨.hbm, 62, rfl⟩
abbrev main_v40 : Ref sig .tc := ⟨.hbm, 63, rfl⟩
abbrev main_cst_14 : Ref sig .tc := ⟨.hbm, 64, rfl⟩
abbrev main_cst_15 : Ref sig .tc := ⟨.hbm, 65, rfl⟩
abbrev main_call1_v0 : Ref sig .tc := ⟨.hbm, 66, rfl⟩
abbrev main_call1_v1 : Ref sig .tc := ⟨.hbm, 67, rfl⟩
abbrev main_v41 : Ref sig .tc := ⟨.hbm, 68, rfl⟩
abbrev main_v42 : Ref sig .tc := ⟨.hbm, 69, rfl⟩
abbrev main_cst_16 : Ref sig .tc := ⟨.hbm, 70, rfl⟩
abbrev main_cst_17 : Ref sig .tc := ⟨.hbm, 71, rfl⟩
abbrev main_call3_v0 : Ref sig .tc := ⟨.hbm, 72, rfl⟩
abbrev main_call3_v1 : Ref sig .tc := ⟨.hbm, 73, rfl⟩
abbrev main_v43 : Ref sig .tc := ⟨.hbm, 74, rfl⟩
abbrev main_cst_18 : Ref sig .tc := ⟨.hbm, 75, rfl⟩
abbrev main_cst_19 : Ref sig .tc := ⟨.hbm, 76, rfl⟩
abbrev main_call4_v0 : Ref sig .tc := ⟨.hbm, 77, rfl⟩
abbrev main_call4_v1 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_20 : Ref sig .tc := ⟨.hbm, 82, rfl⟩
abbrev main_cst_21 : Ref sig .tc := ⟨.hbm, 83, rfl⟩
abbrev main_call7_v0 : Ref sig .tc := ⟨.hbm, 84, rfl⟩
abbrev main_call7_v1 : Ref sig .tc := ⟨.hbm, 85, rfl⟩
abbrev main_v47 : Ref sig .tc := ⟨.hbm, 86, rfl⟩
abbrev main_cst_22 : Ref sig .tc := ⟨.hbm, 87, rfl⟩
abbrev main_cst_23 : Ref sig .tc := ⟨.hbm, 88, rfl⟩
abbrev main_call8_v0 : Ref sig .tc := ⟨.hbm, 89, rfl⟩
abbrev main_call8_v1 : Ref sig .tc := ⟨.hbm, 90, rfl⟩
abbrev main_v48 : Ref sig .tc := ⟨.hbm, 91, rfl⟩
abbrev main_v49 : Ref sig .tc := ⟨.hbm, 92, rfl⟩
abbrev main_cst_24 : Ref sig .tc := ⟨.hbm, 93, rfl⟩
abbrev main_cst_25 : Ref sig .tc := ⟨.hbm, 94, rfl⟩
abbrev main_call10_v0 : Ref sig .tc := ⟨.hbm, 95, rfl⟩
abbrev main_call10_v1 : Ref sig .tc := ⟨.hbm, 96, rfl⟩
abbrev main_v50 : Ref sig .tc := ⟨.hbm, 97, rfl⟩
abbrev main_cst_26 : Ref sig .tc := ⟨.hbm, 98, rfl⟩
abbrev main_cst_27 : Ref sig .tc := ⟨.hbm, 99, rfl⟩
abbrev main_call11_v0 : Ref sig .tc := ⟨.hbm, 100, rfl⟩
abbrev main_call11_v1 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_28 : Ref sig .tc := ⟨.hbm, 111, rfl⟩
abbrev main_v60 : Ref sig .tc := ⟨.hbm, 112, rfl⟩
abbrev main_v61 : Ref sig .tc := ⟨.hbm, 113, rfl⟩
abbrev main_c_29 : Ref sig .tc := ⟨.hbm, 114, rfl⟩
abbrev main_v62 : Ref sig .tc := ⟨.hbm, 115, rfl⟩
abbrev main_v63 : Ref sig .tc := ⟨.hbm, 116, rfl⟩
abbrev main_c_30 : Ref sig .tc := ⟨.hbm, 117, rfl⟩
abbrev main_v64 : Ref sig .tc := ⟨.hbm, 118, rfl⟩
abbrev main_v65 : Ref sig .tc := ⟨.hbm, 119, rfl⟩
abbrev main_c_31 : Ref sig .tc := ⟨.hbm, 120, rfl⟩
abbrev main_v66 : Ref sig .tc := ⟨.hbm, 121, rfl⟩
abbrev main_v67 : Ref sig .tc := ⟨.hbm, 122, rfl⟩
abbrev main_c_32 : Ref sig .tc := ⟨.hbm, 123, rfl⟩
abbrev main_v68 : Ref sig .tc := ⟨.hbm, 124, rfl⟩
abbrev main_v69 : Ref sig .tc := ⟨.hbm, 125, rfl⟩
abbrev main_c_33 : Ref sig .tc := ⟨.hbm, 126, rfl⟩
abbrev main_v70 : Ref sig .tc := ⟨.hbm, 127, rfl⟩
abbrev main_v71 : Ref sig .tc := ⟨.hbm, 128, rfl⟩
abbrev main_c_34 : Ref sig .tc := ⟨.hbm, 129, rfl⟩
abbrev main_v72 : Ref sig .tc := ⟨.hbm, 130, rfl⟩
abbrev main_v73 : Ref sig .tc := ⟨.hbm, 131, rfl⟩
abbrev main_c_35 : Ref sig .tc := ⟨.hbm, 132, rfl⟩
abbrev main_v74 : Ref sig .tc := ⟨.hbm, 133, rfl⟩
abbrev main_v75 : Ref sig .tc := ⟨.hbm, 134, rfl⟩
abbrev main_c_36 : Ref sig .tc := ⟨.hbm, 135, rfl⟩
abbrev main_v76 : Ref sig .tc := ⟨.hbm, 136, rfl⟩
abbrev main_v77 : Ref sig .tc := ⟨.hbm, 137, rfl⟩
abbrev main_c_37 : Ref sig .tc := ⟨.hbm, 138, rfl⟩
abbrev main_v78 : Ref sig .tc := ⟨.hbm, 139, rfl⟩
abbrev main_v79 : Ref sig .tc := ⟨.hbm, 140, rfl⟩
abbrev main_c_38 : Ref sig .tc := ⟨.hbm, 141, rfl⟩
abbrev main_v80 : Ref sig .tc := ⟨.hbm, 142, rfl⟩
abbrev main_v81 : Ref sig .tc := ⟨.hbm, 143, rfl⟩
abbrev main_c_39 : Ref sig .tc := ⟨.hbm, 144, rfl⟩
abbrev main_v82 : Ref sig .tc := ⟨.hbm, 145, rfl⟩
abbrev main_v83 : Ref sig .tc := ⟨.hbm, 146, rfl⟩
abbrev main_cst_40 : Ref sig .tc := ⟨.hbm, 147, rfl⟩
abbrev main_cst_41 : Ref sig .tc := ⟨.hbm, 148, rfl⟩
abbrev main_call15_v0 : Ref sig .tc := ⟨.hbm, 149, rfl⟩
abbrev main_call15_v1 : Ref sig .tc := ⟨.hbm, 150, rfl⟩
abbrev main_v84 : Ref sig .tc := ⟨.hbm, 151, rfl⟩
abbrev main_cst_42 : Ref sig .tc := ⟨.hbm, 152, rfl⟩
abbrev main_cst_43 : Ref sig .tc := ⟨.hbm, 153, rfl⟩
abbrev main_call16_v0 : Ref sig .tc := ⟨.hbm, 154, rfl⟩
abbrev main_call16_v1 : Ref sig .tc := ⟨.hbm, 155, rfl⟩
abbrev main_v85 : Ref sig .tc := ⟨.hbm, 156, rfl⟩
abbrev main_v86 : Ref sig .tc := ⟨.hbm, 157, rfl⟩
abbrev main_cst_44 : Ref sig .tc := ⟨.hbm, 158, rfl⟩
abbrev main_cst_45 : Ref sig .tc := ⟨.hbm, 159, rfl⟩
abbrev main_call18_v0 : Ref sig .tc := ⟨.hbm, 160, rfl⟩
abbrev main_call18_v1 : Ref sig .tc := ⟨.hbm, 161, rfl⟩
abbrev main_v87 : Ref sig .tc := ⟨.hbm, 162, rfl⟩
abbrev main_cst_46 : Ref sig .tc := ⟨.hbm, 163, rfl⟩
abbrev main_cst_47 : Ref sig .tc := ⟨.hbm, 164, rfl⟩
abbrev main_call19_v0 : Ref sig .tc := ⟨.hbm, 165, rfl⟩
abbrev main_call19_v1 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_48 : Ref sig .tc := ⟨.hbm, 170, rfl⟩
abbrev main_cst_49 : Ref sig .tc := ⟨.hbm, 171, rfl⟩
abbrev main_call22_v0 : Ref sig .tc := ⟨.hbm, 172, rfl⟩
abbrev main_call22_v1 : Ref sig .tc := ⟨.hbm, 173, rfl⟩
abbrev main_v91 : Ref sig .tc := ⟨.hbm, 174, rfl⟩
abbrev main_cst_50 : Ref sig .tc := ⟨.hbm, 175, rfl⟩
abbrev main_cst_51 : Ref sig .tc := ⟨.hbm, 176, rfl⟩
abbrev main_call23_v0 : Ref sig .tc := ⟨.hbm, 177, rfl⟩
abbrev main_call23_v1 : Ref sig .tc := ⟨.hbm, 178, rfl⟩
abbrev main_v92 : Ref sig .tc := ⟨.hbm, 179, rfl⟩
abbrev main_v93 : Ref sig .tc := ⟨.hbm, 180, rfl⟩
abbrev main_cst_52 : Ref sig .tc := ⟨.hbm, 181, rfl⟩
abbrev main_cst_53 : Ref sig .tc := ⟨.hbm, 182, rfl⟩
abbrev main_call25_v0 : Ref sig .tc := ⟨.hbm, 183, rfl⟩
abbrev main_call25_v1 : Ref sig .tc := ⟨.hbm, 184, rfl⟩
abbrev main_v94 : Ref sig .tc := ⟨.hbm, 185, rfl⟩
abbrev main_cst_54 : Ref sig .tc := ⟨.hbm, 186, rfl⟩
abbrev main_cst_55 : Ref sig .tc := ⟨.hbm, 187, rfl⟩
abbrev main_call26_v0 : Ref sig .tc := ⟨.hbm, 188, rfl⟩
abbrev main_call26_v1 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩

abbrev nD : Nat := 1
abbrev τ : Topo := Topo.v7x

variable {F : FTy → Type} [FloatOps F]
-- ==== Proof.Tile.lean ====
/-
  ONE TILE OF THE KERNEL, NAMED. Grid point (j, k) rebuilds, for each of 16 strips of 32 weight rows and each of two
  windows of 128 packed columns, four [16, 128] tiles of the dequantized weight: low and high nibble, upper and lower
  half of the strip. This module names the values one such tile is made of, in the kernel's own operations:

  * `selectWords`  — eight 32-bit words, word `s` on sublane `s`, seen as 32 rows of bytes;
  * `tableBytes`   — the NF4 table as bytes: rows 0–15 the low bytes of the 16 bf16 words, rows 16–31 the high bytes;
  * `dupBytes0/1`  — the row numbers 0,0,1,1,…,15,15 and 16,16,…,31,31;
  * `lowNibbles` / `highNibbles` — the two nibbles of each packed byte;
  * `decoded`      — the bf16 values a half strip's nibbles name, by two gathers along the rows;
  * `strip`        — the absmax of a strip, `q · scale + offset`, widened with zeros to 128 lanes;
  * `lanes` / `spread` — the absmax of a half strip spread over the packed columns, 32 columns to a value;
  * `interleaved`  — even and odd columns of a result tile woven together.

  Nothing here is proved; the equations are in the modules that read these values at an index.
-/
module

public import Idealize.ShloMosaic.PureOps
public import Idealize.ShloMosaic.Lib.ValueIdxCore

@[expose] public section

noncomputable section

namespace Nf4

open Idealize.ShloMosaic

abbrev T8x128 : Shape := ⟨2, ![8, 128]⟩
abbrev T16x128 : Shape := ⟨2, ![16, 128]⟩
abbrev T32x128 : Shape := ⟨2, ![32, 128]⟩
abbrev T16x128x1 : Shape := ⟨3, ![16, 128, 1]⟩
abbrev T32x128x1 : Shape := ⟨3, ![32, 128, 1]⟩
abbrev T1x16x128 : Shape := ⟨3, ![1, 16, 128]⟩
abbrev T8x56 : Shape := ⟨2, ![8, 56]⟩
abbrev T32x56 : Shape := ⟨2, ![32, 56]⟩
abbrev T32x72 : Shape := ⟨2, ![32, 72]⟩

theorem wide : T8x128.Bitcasts 32 T32x128 8 := by decide
theorem narrow : T32x128.Bitcasts 8 T8x128 32 := by decide
theorem stack4 : Shape.Concatenates [T8x56, T8x56, T8x56, T8x56] T32x56 0 := by decide
theorem widen : Shape.Concatenates [T32x56, T32x72] T32x128 1 := by decide
theorem halves : T8x128.Bitcasts 32 T16x128 16 := by decide

variable {F : FTy → Type} [FloatOps F]

/-- Word `s` of eight on sublane `s`. -/
def words (w0 w1 w2 w3 w4 w5 w6 w7 : BitVec 32) : IVec T8x128 32 :=
  let sub : IVec T8x128 32 := iota .tc T8x128 32 [0] (by decide)
  let pick (s w : BitVec 32) (x : IVec T8x128 32) : IVec T8x128 32 :=
    select (cmpi .eq sub (broadcast T8x128 s)) (broadcast T8x128 w) x
  pick 0#32 w0 (pick 1#32 w1 (pick 2#32 w2 (pick 3#32 w3 (pick 4#32 w4 (pick 5#32 w5 (pick 6#32 w6
    (broadcast T8x128 w7)))))))

/-- The same words as 32 rows of bytes. -/
def selectWords (w0 w1 w2 w3 w4 w5 w6 w7 : BitVec 32) : IVec T32x128 8 :=
  bitcast T32x128 8 (words w0 w1 w2 w3 w4 w5 w6 w7) wide

def tableBytes : IVec T32x128 8 :=
  selectWords 3389403776#32 12205458#32 2910594467#32 2151223522#32 3200237503#32 12435134#32 1044266557#32 1061109566#32
def dupBytes0 : IVec T32x128 8 :=
  selectWords 16842752#32 50528770#32 84214788#32 117900806#32 151586824#32 185272842#32 218958860#32 252644878#32
def dupBytes1 : IVec T32x128 8 :=
  selectWords 286330896#32 320016914#32 353702932#32 387388950#32 421074968#32 454760986#32 488447004#32 522133022#32

def lowNibbles (w : IVec T32x128 8) : IVec T32x128 8 :=
  bitcast T32x128 8 (andi (bitcast T8x128 32 w narrow) (broadcast T8x128 252645135#32)) wide
def highNibbles (w : IVec T32x128 8) : IVec T32x128 8 :=
  bitcast T32x128 8 (andi (shrui (bitcast T8x128 32 w narrow) (broadcast T8x128 4#32)) (broadcast T8x128 252645135#32)) wide

/-- Row `ρ` of the result is row `idx ρ` of `x`, lane by lane. -/
def rowGather (x idx : IVec T32x128 8) : IVec T32x128 8 :=
  dynamicGather 0 x (shapeCast T32x128 (shapeCast T32x128x1 (extsi 32 idx (by decide)) (by decide)) (by decide))

/-- The bf16 values the nibbles `v` name: nibble rows doubled by `dup`, the odd one of each pair turned to the high
    bytes, the table gathered, two bytes read as one bf16 word. -/
def decoded (v dup : IVec T32x128 8) : FVec F T16x128 .bf16 :=
  bitcastToFloat .bf16 (bitcast T16x128 16 (bitcast T8x128 32 (rowGather tableBytes
    (bitcast T32x128 8 (ori (bitcast T8x128 32 (rowGather v dup) narrow) (broadcast T8x128 268439552#32)) wide)) narrow) halves)

/-- Eight rows of a strip's group numbers times 256: row-major position in the strip, from row `r`. -/
def flat (r : BitVec 32) : IVec T8x56 32 :=
  addi (muli (addi (iota .tc T8x56 32 [0] (by decide)) (broadcast T8x56 r)) (broadcast T8x56 56#32))
    (iota .tc T8x56 32 [1] (by decide))

/-- The scale `b` from position `g` on, `x` before it. -/
def fromPos (r g : BitVec 32) (b : Elt F .f32) (x : FVec F T8x56 .f32) : FVec F T8x56 .f32 :=
  select (cmpi .sge (flat r) (broadcast T8x56 g)) (broadcast T8x56 b) x

/-- A strip's absmax, widened with zeros to 128 lanes. -/
def strip (off s0 s1 s2 s3 s4 s5 s6 : Elt F .f32) (q : IVec T32x56 8) : FVec F T32x128 .bf16 :=
  let qf : FVec F T32x56 .f32 := sitofp .f32 q
  let part0 : FVec F T8x56 .f32 := addf (mulf (extractStridedSlice T8x56 ![0, 0] qf (by decide))
    (fromPos 0#32 256#32 s1 (broadcast T8x56 s0))) (broadcast T8x56 off)
  let part1 : FVec F T8x56 .f32 := addf (mulf (extractStridedSlice T8x56 ![8, 0] qf (by decide))
    (fromPos 8#32 768#32 s3 (fromPos 8#32 512#32 s2 (broadcast T8x56 s1)))) (broadcast T8x56 off)
  let part2 : FVec F T8x56 .f32 := addf (mulf (extractStridedSlice T8x56 ![16, 0] qf (by decide))
    (fromPos 16#32 1280#32 s5 (fromPos 16#32 1024#32 s4 (broadcast T8x56 s3)))) (broadcast T8x56 off)
  let part3 : FVec F T8x56 .f32 := addf (mulf (extractStridedSlice T8x56 ![24, 0] qf (by decide))
    (fromPos 24#32 1536#32 s6 (broadcast T8x56 s5))) (broadcast T8x56 off)
  concatenate T32x128 1 [⟨T32x56, truncf .bf16 (concatenate T32x56 0
    [⟨T8x56, part0⟩, ⟨T8x56, part1⟩, ⟨T8x56, part2⟩, ⟨T8x56, part3⟩] stack4) (by decide)⟩,
    ⟨T32x72, broadcast T32x72 (Scalar.ofBits .bf16 0x0000#16 : F .bf16)⟩] widen

/-- Lane number divided by 32, rounded down (as the kernel spells it: truncated division, one less where the signs
    differ and the remainder is not zero). -/
def laneDiv (d : BitVec 32) : IVec T16x128 32 :=
  let lane : IVec T16x128 32 := iota .tc T16x128 32 [1] (by decide)
  let q : IVec T16x128 32 := divsi lane (broadcast T16x128 d)
  let sign : IVec T16x128 32 := subi (extui 32 (cmpi .sgt lane (broadcast T16x128 0#32)) (by decide))
    (extui 32 (cmpi .slt lane (broadcast T16x128 0#32)) (by decide))
  let signd : BitVec 32 := Scalar.subi (Scalar.extui (Scalar.cmpi .sgt d 0#32)) (Scalar.extui (Scalar.cmpi .slt d 0#32))
  select (andi (cmpi .ne sign (broadcast T16x128 signd))
      (cmpi .ne (remsi lane (broadcast T16x128 d)) (broadcast T16x128 0#32)))
    (subi q (broadcast T16x128 1#32)) q

/-- Column `l` of the result is column `idx l` of `x`, row by row. -/
def laneGather {α : Type} (x : T16x128.Idx → α) (idx : IVec T16x128 32) : T16x128.Idx → α :=
  dynamicGather 1 x (shapeCast T16x128 (shapeCast T16x128x1 idx (by decide)) (by decide))

/-- The absmax of a half strip spread over 128 packed columns, 32 to a value, from value `b` on. -/
def spread0 (b : BitVec 32) (a : FVec F T32x128 .bf16) : FVec F T16x128 .bf16 :=
  truncf .bf16 (laneGather (extf .f32 (extractStridedSlice T16x128 ![0, 0] a (by decide)) (by decide))
    (addi (laneDiv 32#32) (broadcast T16x128 b))) (by decide)
def spread1 (b : BitVec 32) (a : FVec F T32x128 .bf16) : FVec F T16x128 .bf16 :=
  truncf .bf16 (laneGather (extf .f32 (extractStridedSlice T16x128 ![16, 0] a (by decide)) (by decide))
    (addi (laneDiv 32#32) (broadcast T16x128 b))) (by decide)

/-- The four tiles of a strip and a window of columns: nibble `p`, half `h`. -/
def tile (p h : Fin 2) (b : BitVec 32) (a : FVec F T32x128 .bf16) (w : IVec T32x128 8) : FVec F T1x16x128 .bf16 :=
  shapeCast T1x16x128 (mulf
    (decoded (match p with | 0 => lowNibbles w | 1 => highNibbles w) (match h with | 0 => dupBytes0 | 1 => dupBytes1))
    (match h with | 0 => spread0 b a | 1 => spread1 b a)) (by decide)

/-- Is the lane number divisible by `2` (as the kernel spells it: the floored remainder)? -/
def laneEven : IVec T16x128 1 :=
  let lane : IVec T16x128 32 := iota .tc T16x128 32 [1] (by decide)
  let two : BitVec 32 := Scalar.select (Scalar.cmpi .eq 2#32 0#32) 1#32 2#32
  let r : IVec T16x128 32 := remsi lane (broadcast T16x128 two)
  cmpi .eq (select (andi (xori (cmpi .slt r (broadcast T16x128 0#32))
        (broadcastTo T16x128 (broadcast T16x128 (Scalar.cmpi .slt two 0#32)) (by decide)))
      (cmpi .ne r (broadcast T16x128 0#32)))
    (addi r (broadcast T16x128 two)) r) (broadcast T16x128 0#32)

/-- The first column of half `h` of a tile's columns. -/
def colStart (h : Fin 2) : BitVec 32 := match h with | 0 => 0#32 | 1 => 64#32

/-- Half `h` of the columns of `e` and `o` woven together: even lanes from `e`, odd lanes from `o`. -/
def interleaved (h : Fin 2) (e o : FVec F T1x16x128 .f32) : FVec F T1x16x128 .bf16 :=
  let src : IVec T16x128 32 := addi (laneDiv 2#32) (broadcast T16x128 (colStart h))
  let take (x : FVec F T1x16x128 .f32) : FVec F T16x128 .f32 :=
    laneGather (extf .f32 (truncf .bf16 (shapeCast T16x128 x (by decide)) (by decide)) (by decide)) src
  shapeCast T1x16x128 (truncf .bf16 (select laneEven (take e) (take o)) (by decide)) (by decide)

end Nf4
-- ==== Proof.Bytes.lean ====
/-
  THE BYTES OF A TILE. A packed byte holds two 4-bit codes; the kernel turns a half strip's codes into bf16 words by byte
  moves alone: it splits the nibbles, doubles each row, marks the odd one of every pair of rows by bit 4, gathers a
  32-row byte table and reads each pair of rows as one 16-bit word. The equation at the end: the word at row `p` is the
  NF4 table's word of the code at row `16h + p`, lane by lane.
-/
module

public import Idealize.ShloMosaic.Lib.BitcastPair
public import Idealize.ShloMosaic.Lib.Pipeline.Value
public import proofs.«01_k».proof.Proof.Tile

@[expose] public section

namespace Nf4

open Idealize.ShloMosaic Idealize.ShloMosaic.ValueIdx

/-- A reinterpretation at rank 2, bit by bit: bit `q` of the result at `(a, l)` is the source's bit `a·w + q` counted down
    the column. -/
theorem bitcast_ix2 {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  have e : ∀ y : (⟨2, ![R, n]⟩ : Shape).Idx, y = ix2 p l →
      (x y).getLsbD ((a.val * w + q) % v) = (x (ix2 p l)).getLsbD ((a.val * w + q) % v) := fun y hy => by rw [hy]
  apply e
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Row `p` of the bytes of words: byte `p % 4` of word `p / 4`. -/
theorem byte_of_word (X : IVec T8x128 32) (p : Fin 32) (l : Fin 128) :
    bitcast T32x128 8 X wide (ix2 p l) = (X (ix2 ⟨p.val / 4, by omega⟩ l)).extractLsb' (8 * (p.val % 4)) 8 := by
  apply BitVec.eq_of_getLsbD_eq
  intro q hq
  rw [bitcast_ix2 X wide p l q hq (by decide) ⟨p.val / 4, by omega⟩ (by show p.val / 4 = _; omega)]
  rw [BitVec.getLsbD_extractLsb']
  simp only [hq, decide_true, Bool.true_and]
  congr 1
  omega

/-- Bit `8·(p % 4) + q` of word `p / 4` of the words of bytes: bit `q` of byte `p`. -/
theorem word_of_bytes (x : IVec T32x128 8) (p : Fin 32) (l : Fin 128) (q : Nat) (hq : q < 8) :
    (bitcast T8x128 32 x narrow (ix2 ⟨p.val / 4, by omega⟩ l)).getLsbD (8 * (p.val % 4) + q) = (x (ix2 p l)).getLsbD q := by
  rw [bitcast_ix2 x narrow ⟨p.val / 4, by omega⟩ l _ (by omega) (by decide) p (by show p.val = (p.val / 4 * 32 + _) / 8; omega)]
  congr 1
  show (p.val / 4 * 32 + (8 * (p.val % 4) + q)) % 8 = q
  omega

theorem words_apply (w0 w1 w2 w3 w4 w5 w6 w7 : BitVec 32) (a : Fin 8) (l : Fin 128) :
    words w0 w1 w2 w3 w4 w5 w6 w7 (ix2 a l) = (![w0, w1, w2, w3, w4, w5, w6, w7] : Fin 8 → BitVec 32) a := by
  match a with
  | 0 => rfl
  | 1 => rfl
  | 2 => rfl
  | 3 => rfl
  | 4 => rfl
  | 5 => rfl
  | 6 => rfl
  | 7 => rfl

theorem selectWords_apply (w0 w1 w2 w3 w4 w5 w6 w7 : BitVec 32) (p : Fin 32) (l : Fin 128) :
    selectWords w0 w1 w2 w3 w4 w5 w6 w7 (ix2 p l)
      = ((![w0, w1, w2, w3, w4, w5, w6, w7] : Fin 8 → BitVec 32) ⟨p.val / 4, by omega⟩).extractLsb' (8 * (p.val % 4)) 8 := by
  unfold selectWords
  rw [byte_of_word, words_apply]

/-- Row `ρ` of the table of bytes. -/
def tableByte (p : Fin 32) : BitVec 8 :=
  ((![3389403776#32, 12205458#32, 2910594467#32, 2151223522#32, 3200237503#32, 12435134#32, 1044266557#32, 1061109566#32]
    : Fin 8 → BitVec 32) ⟨p.val / 4, by omega⟩).extractLsb' (8 * (p.val % 4)) 8

theorem tableBytes_apply (p : Fin 32) (l : Fin 128) : tableBytes (ix2 p l) = tableByte p := selectWords_apply ..

theorem dupBytes0_apply (p : Fin 32) (l : Fin 128) : dupBytes0 (ix2 p l) = BitVec.ofNat 8 (p.val / 2) := by
  unfold dupBytes0
  rw [selectWords_apply]
  revert p; decide
theorem dupBytes1_apply (p : Fin 32) (l : Fin 128) : dupBytes1 (ix2 p l) = BitVec.ofNat 8 (16 + p.val / 2) := by
  unfold dupBytes1
  rw [selectWords_apply]
  revert p; decide

theorem rowGather_apply (x idx : IVec T32x128 8) (p : Fin 32) (l : Fin 128) (n : Fin 32)
    (hn : ((idx (ix2 p l)).signExtend 32).toNat % 32 = n.val) : rowGather x idx (ix2 p l) = x (ix2 n l) := by
  unfold rowGather
  rw [shapeCast_shapeCast]
  show x (fun b => if b = (0 : Fin 2) then _ else _) = _
  congr 1
  funext b
  match b with
  | ⟨0, _⟩ => exact Fin.ext hn
  | ⟨1, _⟩ => rfl

theorem lowNibbles_apply (w : IVec T32x128 8) (p : Fin 32) (l : Fin 128) :
    lowNibbles w (ix2 p l) = w (ix2 p l) &&& 15#8 := by
  unfold lowNibbles
  rw [byte_of_word]
  apply BitVec.eq_of_getLsbD_eq
  intro q hq
  have hw := word_of_bytes w p l q hq
  have hm : ∀ (p : Fin 32) (q : Fin 8), (252645135#32 : BitVec 32).getLsbD (8 * (p.val % 4) + q.val) = (15#8 : BitVec 8).getLsbD q.val := by
    decide
  rw [BitVec.getLsbD_extractLsb', BitVec.getLsbD_and, ← hw, ← hm p ⟨q, hq⟩, ← BitVec.getLsbD_and]
  simp only [hq, decide_true, Bool.true_and]
  rfl

theorem highNibbles_apply (w : IVec T32x128 8) (p : Fin 32) (l : Fin 128) :
    highNibbles w (ix2 p l) = w (ix2 p l) >>> 4 := by
  unfold highNibbles
  rw [byte_of_word]
  apply BitVec.eq_of_getLsbD_eq
  intro q hq
  have hm : ∀ (p : Fin 32) (q : Fin 8), (252645135#32 : BitVec 32).getLsbD (8 * (p.val % 4) + q.val) = decide (q.val < 4) := by
    decide
  rw [BitVec.getLsbD_extractLsb']
  simp only [hq, decide_true, Bool.true_and]
  show ((bitcast T8x128 32 w narrow (ix2 ⟨p.val / 4, by omega⟩ l) >>> 4) &&& 252645135#32).getLsbD _ = _
  rw [BitVec.getLsbD_and, hm p ⟨q, hq⟩, BitVec.getLsbD_ushiftRight, BitVec.getLsbD_ushiftRight]
  by_cases h4 : q < 4
  · have hw := word_of_bytes w p l (4 + q) (by omega)
    rw [← hw]
    simp only [h4, decide_true, Bool.and_true]
    congr 1; omega
  · simp only [h4, decide_false, Bool.and_false]
    exact (BitVec.getLsbD_of_ge _ _ (by omega)).symm

/-- The row numbers with the odd rows of each pair turned to the table's upper half. -/
theorem marked_apply (x : IVec T32x128 8) (p : Fin 32) (l : Fin 128) :
    bitcast T32x128 8 (ori (bitcast T8x128 32 x narrow) (broadcast T8x128 268439552#32)) wide (ix2 p l)
      = x (ix2 p l) ||| (if p.val % 2 = 1 then 16#8 else 0#8) := by
  rw [byte_of_word]
  apply BitVec.eq_of_getLsbD_eq
  intro q hq
  have hw := word_of_bytes x p l q hq
  have hm : ∀ (p : Fin 32) (q : Fin 8), (268439552#32 : BitVec 32).getLsbD (8 * (p.val % 4) + q.val)
      = (if p.val % 2 = 1 then 16#8 else 0#8 : BitVec 8).getLsbD q.val := by
    decide
  rw [BitVec.getLsbD_extractLsb', BitVec.getLsbD_or, ← hw, ← hm p ⟨q, hq⟩, ← BitVec.getLsbD_or]
  simp only [hq, decide_true, Bool.true_and]
  rfl

/-- The NF4 table's bf16 words. -/
def nf4Word (c : Fin 16) : BitVec 16 :=
  tableByte ⟨c.val + 16, by omega⟩ ++ tableByte ⟨c.val, by omega⟩

theorem nf4Word_bit : ∀ (c : Fin 16) (q : Fin 16),
    (tableByte ⟨c.val + 16 * (q.val / 8), by omega⟩).getLsbD (q.val % 8) = (nf4Word c).getLsbD q.val := by
  decide

/-- Two gathered rows read as one word: the table's word of the code at row `16h + p`. -/
theorem word_apply (v dup : IVec T32x128 8) (h : Nat) (hh : h < 2)
    (hd : ∀ (p : Fin 32) (l : Fin 128), dup (ix2 p l) = BitVec.ofNat 8 (16 * h + p.val / 2))
    (p : Fin 16) (l : Fin 128) (c : Fin 16) (hc : v (ix2 ⟨16 * h + p.val, by omega⟩ l) = BitVec.ofNat 8 c.val) :
    bitcast T16x128 16 (bitcast T8x128 32 (rowGather tableBytes
      (bitcast T32x128 8 (ori (bitcast T8x128 32 (rowGather v dup) narrow) (broadcast T8x128 268439552#32)) wide)) narrow) halves
      (ix2 p l) = nf4Word c := by
  apply BitVec.eq_of_getLsbD_eq
  intro q hq
  rw [bitcast_ix2 _ halves p l q hq (by decide) ⟨p.val / 2, by omega⟩ (by show p.val / 2 = _; omega)]
  have hw := word_of_bytes (rowGather tableBytes
      (bitcast T32x128 8 (ori (bitcast T8x128 32 (rowGather v dup) narrow) (broadcast T8x128 268439552#32)) wide))
      ⟨2 * p.val + q / 8, by omega⟩ l (q % 8) (by omega)
  have hidx : (⟨(⟨2 * p.val + q / 8, by omega⟩ : Fin 32).val / 4, by omega⟩ : Fin 8) = ⟨p.val / 2, by omega⟩ :=
    Fin.ext (by show (2 * p.val + q / 8) / 4 = p.val / 2; omega)
  rw [hidx] at hw
  have hbit : (p.val * 16 + q) % 32 = 8 * ((⟨2 * p.val + q / 8, by omega⟩ : Fin 32).val % 4) + q % 8 := by
    show _ = 8 * ((2 * p.val + q / 8) % 4) + q % 8; omega
  rw [hbit, hw]
  have hrow : rowGather v dup (ix2 ⟨2 * p.val + q / 8, by omega⟩ l) = BitVec.ofNat 8 c.val := by
    rw [← hc]
    apply rowGather_apply
    rw [hd]
    have e : (2 * p.val + q / 8) / 2 = p.val := by omega
    show ((BitVec.ofNat 8 (16 * h + (2 * p.val + q / 8) / 2)).signExtend 32).toNat % 32 = 16 * h + p.val
    rw [e]
    have hn : ∀ n : Fin 32, ((BitVec.ofNat 8 n.val).signExtend 32).toNat % 32 = n.val := by decide
    exact hn ⟨16 * h + p.val, by omega⟩
  have hm := marked_apply (rowGather v dup) ⟨2 * p.val + q / 8, by omega⟩ l
  rw [hrow] at hm
  have hpar : ((⟨2 * p.val + q / 8, by omega⟩ : Fin 32).val % 2 = 1) ↔ q / 8 = 1 := by
    show (2 * p.val + q / 8) % 2 = 1 ↔ _; omega
  simp only [hpar] at hm
  have key : ∀ (c : Fin 16) (k : Fin 2),
      ((BitVec.ofNat 8 c.val ||| (if k.val = 1 then 16#8 else 0#8)).signExtend 32).toNat % 32 = c.val + 16 * k.val := by decide
  rw [rowGather_apply tableBytes _ ⟨2 * p.val + q / 8, by omega⟩ l ⟨c.val + 16 * (q / 8), by omega⟩
    (by rw [hm]; exact key c ⟨q / 8, by omega⟩), tableBytes_apply]
  exact nf4Word_bit c ⟨q, hq⟩

variable {F : FTy → Type} [FloatOps F]

/-- The code a packed byte holds for nibble `p`. -/
def code (p : Fin 2) (b : BitVec 8) : Fin 16 :=
  match p with
  | 0 => ⟨b.toNat % 16, by omega⟩
  | 1 => ⟨b.toNat / 16, by omega⟩

/-- The bf16 values a half strip decodes to. -/
theorem decoded_apply (p h : Fin 2) (w : IVec T32x128 8) (r : Fin 16) (l : Fin 128) :
    (decoded (match p with | 0 => lowNibbles w | 1 => highNibbles w) (match h with | 0 => dupBytes0 | 1 => dupBytes1)
      : FVec F T16x128 .bf16) (ix2 r l)
      = FloatOps.ofBits .bf16 (nf4Word (code p (w (ix2 ⟨16 * h.val + r.val, by omega⟩ l)))) := by
  unfold decoded
  show FloatOps.ofBits .bf16 _ = _
  congr 1
  have hlow : ∀ b : BitVec 8, b &&& 15#8 = BitVec.ofNat 8 (b.toNat % 16) := by decide
  have hhigh : ∀ b : BitVec 8, b >>> 4 = BitVec.ofNat 8 (b.toNat / 16) := by decide
  apply word_apply _ _ h.val h.isLt
  · intro p l
    match h with
    | 0 => exact (dupBytes0_apply p l).trans (by simp)
    | 1 => exact (dupBytes1_apply p l).trans (by simp)
  · match p with
    | 0 => exact (lowNibbles_apply ..).trans (hlow _)
    | 1 => exact (highNibbles_apply ..).trans (hhigh _)

end Nf4
-- ==== Proof.Absmax.lean ====
/-
  THE ABSMAX OF A TILE, and one tile of the dequantized weight at an index, on the extended reals. A strip of 32 rows has
  56 absmax values a row; value `b` of row `ρ` is `q · s + offset` with `s` the scale of its group of 256 in row-major
  order, the strip's groups numbered from its first. `tile_apply` is the tile: the NF4 value of the code times the absmax
  of the code's 32 columns.
-/
module

public import Idealize.ShloMosaic.PureOps.Ideal
public import Idealize.ShloMosaic.Lib.Pointwise.SelectCore
public import proofs.«01_k».proof.Proof.Bytes

@[expose] public section

noncomputable section

namespace Nf4

open Idealize.ShloMosaic hiding ix1 ix2 ix3 ix4
open Idealize.ShloMosaic.ValueIdx

/-! ## Integers of a lane -/

theorem fromPos_apply {F : FTy → Type} [FloatOps F] (r g : Nat) (hr : r ≤ 24) (hg : g ≤ 1792) (b : Elt F .f32) (x : FVec F T8x56 .f32) (a : Fin 8) (k : Fin 56) :
    fromPos (BitVec.ofNat 32 r) (BitVec.ofNat 32 g) b x (ix2 a k) = if g ≤ (a.val + r) * 56 + k.val then b else x (ix2 a k) := by
  have hn : flat (BitVec.ofNat 32 r) (ix2 a k) = BitVec.ofNat 32 ((a.val + r) * 56 + k.val) := by
    show (BitVec.ofNat 32 (0 * 8 + a.val) + BitVec.ofNat 32 r) * BitVec.ofNat 32 56 + BitVec.ofNat 32 (0 * 56 + k.val) = _
    rw [← BitVec.ofNat_add, ← BitVec.ofNat_mul, ← BitVec.ofNat_add]
    congr 1; omega
  show Scalar.select (IntOp.cmpi .sge (flat (BitVec.ofNat 32 r) (ix2 a k)) (BitVec.ofNat 32 g)) b (x (ix2 a k)) = _
  rw [hn]
  have hs : IntOp.cmpi .sge (BitVec.ofNat 32 ((a.val + r) * 56 + k.val)) (BitVec.ofNat 32 g)
      = BitVec.ofBool (decide (g ≤ (a.val + r) * 56 + k.val)) := by
    have ha := a.isLt
    have hk := k.isLt
    have e1 : (BitVec.ofNat 32 ((a.val + r) * 56 + k.val)).toInt = (((a.val + r) * 56 + k.val : Nat) : Int) := by
      rw [BitVec.toInt_eq_toNat_of_lt] <;> rw [BitVec.toNat_ofNat, Nat.mod_eq_of_lt] <;> omega
    have e2 : (BitVec.ofNat 32 g).toInt = ((g : Nat) : Int) := by
      rw [BitVec.toInt_eq_toNat_of_lt] <;> rw [BitVec.toNat_ofNat, Nat.mod_eq_of_lt] <;> omega
    show BitVec.ofBool (decide ((BitVec.ofNat 32 g).toInt ≤ (BitVec.ofNat 32 ((a.val + r) * 56 + k.val)).toInt)) = _
    rw [e1, e2]
    congr 2
    exact propext Int.ofNat_le
  rw [hs]
  by_cases h : g ≤ (a.val + r) * 56 + k.val <;> simp [h, Scalar.select]

theorem laneDiv_apply (d : Nat) (hd : d = 32 ∨ d = 2) (p : Fin 16) (l : Fin 128) :
    laneDiv (BitVec.ofNat 32 d) (ix2 p l) = BitVec.ofNat 32 (l.val / d) := by
  have key : ∀ l : Fin 128, laneDiv (BitVec.ofNat 32 d) (ix2 (0 : Fin 16) l) = BitVec.ofNat 32 (l.val / d) := by
    rcases hd with rfl | rfl <;> decide
  exact key l

theorem laneEven_apply (p : Fin 16) (l : Fin 128) : laneEven (ix2 p l) = BitVec.ofBool (decide (l.val % 2 = 0)) := by
  have key : ∀ l : Fin 128, laneEven (ix2 (0 : Fin 16) l) = BitVec.ofBool (decide (l.val % 2 = 0)) := by decide
  exact key l

theorem laneGather_apply {α : Type} (x : T16x128.Idx → α) (idx : IVec T16x128 32) (p : Fin 16) (l n : Fin 128)
    (hn : (idx (ix2 p l)).toNat % 128 = n.val) : laneGather x idx (ix2 p l) = x (ix2 p n) := by
  unfold laneGather
  rw [shapeCast_shapeCast]
  show x (fun b => if b = (1 : Fin 2) then _ else _) = _
  congr 1
  funext b
  match b with
  | ⟨0, _⟩ => rfl
  | ⟨1, _⟩ => exact Fin.ext hn

/-! ## The strip -/

theorem truncf_ideal {s : Shape} {φ ψ : FTy} (x : FVec Ideal s φ) (h : ψ.bits < φ.bits) (i : s.Idx) :
    (truncf ψ x h : FVec Ideal s ψ) i = x i := rfl

/-- Four stacks of eight rows read at row `r`: `v`, when the stack holding row `r` has the value `v` there. -/
theorem stackRows {α : Type} (x0 x1 x2 x3 : T8x56.Idx → α)
    (h : Shape.Concatenates (([⟨T8x56, x0⟩, ⟨T8x56, x1⟩, ⟨T8x56, x2⟩, ⟨T8x56, x3⟩] : List ((s : Shape) × (s.Idx → α))).map (·.1)) T32x56 0)
    (r : Fin 32) (b : Fin 56) (v : α)
    (h0 : ∀ a : Fin 8, 0 + a.val = r.val → x0 (ix2 a b) = v) (h1 : ∀ a : Fin 8, 8 + a.val = r.val → x1 (ix2 a b) = v)
    (h2 : ∀ a : Fin 8, 16 + a.val = r.val → x2 (ix2 a b) = v) (h3 : ∀ a : Fin 8, 24 + a.val = r.val → x3 (ix2 a b) = v) :
    concatenate T32x56 0 [⟨T8x56, x0⟩, ⟨T8x56, x1⟩, ⟨T8x56, x2⟩, ⟨T8x56, x3⟩] h (ix2 r b) = v := by
  have hr := r.isLt
  have ext (i : T8x56.Idx) (n : Nat) (hn : n < 8) (e0 : (i 0).val = n) (e1 : i 1 = b) : i = ix2 ⟨n, hn⟩ b := by
    funext c
    match c with
    | ⟨0, _⟩ => exact Fin.ext e0
    | ⟨1, _⟩ => exact e1
  rw [concatenate_cons_apply, concatenateAt_cons]
  by_cases c0 : r.val < 8
  · exact (dif_pos c0).trans ((congrArg x0 (ext _ r.val c0 rfl rfl)).trans (h0 _ (by simp)))
  refine (dif_neg c0).trans ?_
  rw [concatenateAt_cons]
  by_cases c1 : r.val - 8 < 8
  · exact (dif_pos c1).trans ((congrArg x1 (ext _ (r.val - 8) c1 rfl rfl)).trans (h1 _ (by simp; omega)))
  refine (dif_neg c1).trans ?_
  rw [concatenateAt_cons]
  by_cases c2 : r.val - 8 - 8 < 8
  · exact (dif_pos c2).trans ((congrArg x2 (ext _ (r.val - 8 - 8) c2 rfl rfl)).trans (h2 _ (by simp; omega)))
  refine (dif_neg c2).trans ?_
  rw [concatenateAt_singleton]
  exact (congrArg x3 (ext _ (r.val - 8 - 8 - 8) (by omega) rfl rfl)).trans (h3 _ (by simp; omega))

theorem strip_apply (off : EReal) (s : Fin 7 → EReal) (q : IVec T32x56 8) (r : Fin 32) (b : Fin 56) :
    (strip (F := Ideal) off (s 0) (s 1) (s 2) (s 3) (s 4) (s 5) (s 6) q) (ix2 r ⟨b.val, by omega⟩)
      = (((q (ix2 r b)).toInt : ℝ) : EReal) * s ⟨(r.val * 56 + b.val) / 256, by omega⟩ + off := by
  unfold strip
  rw [concatenate_pair_apply_left 1 _ _ widen (ix2 r ⟨b.val, by omega⟩) rfl (ix2 r b)
    (fun c => by match c with
      | ⟨0, _⟩ => rfl
      | ⟨1, _⟩ => rfl)]
  rw [truncf_ideal]
  have part (off8 : Fin 2 → Nat) (hoff : T32x56.Slices off8 T8x56) (sc : FVec Ideal T8x56 .f32) (a : Fin 8)
      (h0 : off8 0 + a.val = r.val) (h1 : off8 1 = 0) (hsc : sc (ix2 a b) = s ⟨(r.val * 56 + b.val) / 256, by omega⟩) :
      addf (mulf (extractStridedSlice T8x56 off8 (sitofp (F := Ideal) .f32 q) hoff) sc) (broadcast T8x56 off) (ix2 a b)
        = (((q (ix2 r b)).toInt : ℝ) : EReal) * s ⟨(r.val * 56 + b.val) / 256, by omega⟩ + off := by
    show extractStridedSlice T8x56 off8 (sitofp (F := Ideal) .f32 q) hoff (ix2 a b) * sc (ix2 a b) + off = _
    rw [hsc, extractStridedSlice_apply off8 _ hoff (ix2 a b) (ix2 r b) (fun c => by
      match c with
      | ⟨0, _⟩ => exact h0.symm
      | ⟨1, _⟩ => show b.val = off8 1 + b.val; omega)]
    rfl
  have hb := b.isLt
  have hs (n m : Nat) (hn : n < 7) (hm : m < 7) (h : n = m) : s ⟨n, hn⟩ = s ⟨m, hm⟩ := by subst h; rfl
  refine stackRows _ _ _ _ _ r b _ (fun a ha => part _ _ _ a ha rfl ?_) (fun a ha => part _ _ _ a ha rfl ?_)
    (fun a ha => part _ _ _ a ha rfl ?_) (fun a ha => part _ _ _ a ha rfl ?_)
  · rw [fromPos_apply 0 256 (by omega) (by omega)]
    by_cases g : 256 ≤ (a.val + 0) * 56 + b.val
    · rw [if_pos g]; exact hs 1 _ _ _ (by omega)
    · rw [if_neg g]; exact hs 0 _ _ _ (by omega)
  · rw [fromPos_apply 8 768 (by omega) (by omega), fromPos_apply 8 512 (by omega) (by omega)]
    by_cases g : 768 ≤ (a.val + 8) * 56 + b.val
    · rw [if_pos g]; exact hs 3 _ _ _ (by omega)
    rw [if_neg g]
    by_cases g' : 512 ≤ (a.val + 8) * 56 + b.val
    · rw [if_pos g']; exact hs 2 _ _ _ (by omega)
    · rw [if_neg g']; exact hs 1 _ _ _ (by omega)
  · rw [fromPos_apply 16 1280 (by omega) (by omega), fromPos_apply 16 1024 (by omega) (by omega)]
    by_cases g : 1280 ≤ (a.val + 16) * 56 + b.val
    · rw [if_pos g]; exact hs 5 _ _ _ (by omega)
    rw [if_neg g]
    by_cases g' : 1024 ≤ (a.val + 16) * 56 + b.val
    · rw [if_pos g']; exact hs 4 _ _ _ (by omega)
    · rw [if_neg g']; exact hs 3 _ _ _ (by omega)
  · rw [fromPos_apply 24 1536 (by omega) (by omega)]
    by_cases g : 1536 ≤ (a.val + 24) * 56 + b.val
    · rw [if_pos g]; exact hs 6 _ _ _ (by omega)
    · rw [if_neg g]; exact hs 5 _ _ _ (by omega)

/-! ## The tile -/

theorem spread_apply (h : Fin 2) (b : Nat) (hb : b + 3 < 128) (a : FVec Ideal T32x128 .bf16) (p : Fin 16) (l : Fin 128) :
    (match h with | 0 => spread0 (BitVec.ofNat 32 b) a | 1 => spread1 (BitVec.ofNat 32 b) a : FVec Ideal T16x128 .bf16) (ix2 p l)
      = a (ix2 ⟨16 * h.val + p.val, by omega⟩ ⟨l.val / 32 + b, by omega⟩) := by
  have hl := l.isLt
  have hidx : ((addi (laneDiv 32#32) (broadcast T16x128 (BitVec.ofNat 32 b)) : IVec T16x128 32) (ix2 p l)).toNat % 128
      = (⟨l.val / 32 + b, by omega⟩ : Fin 128).val := by
    have := laneDiv_apply 32 (Or.inl rfl) p l
    show (laneDiv 32#32 (ix2 p l) + BitVec.ofNat 32 b).toNat % 128 = l.val / 32 + b
    rw [show (32#32 : BitVec 32) = BitVec.ofNat 32 32 from rfl, this, ← BitVec.ofNat_add, BitVec.toNat_ofNat]
    omega
  have row (h : Fin 2) (off : Fin 2 → Nat) (hoff : T32x128.Slices off T16x128) (h0 : off 0 = 16 * h.val) (h1 : off 1 = 0)
      (hi : ((addi (laneDiv 32#32) (broadcast T16x128 (BitVec.ofNat 32 b)) : IVec T16x128 32) (ix2 p l)).toNat % 128
        = (⟨l.val / 32 + b, by omega⟩ : Fin 128).val) :
      laneGather (extf .f32 (extractStridedSlice T16x128 off a hoff) (by decide) : FVec Ideal T16x128 .f32)
          (addi (laneDiv 32#32) (broadcast T16x128 (BitVec.ofNat 32 b))) (ix2 p l)
        = a (ix2 ⟨16 * h.val + p.val, by omega⟩ ⟨l.val / 32 + b, by omega⟩) := by
    rw [laneGather_apply _ _ p l _ hi]
    exact extractStridedSlice_apply off a hoff (ix2 p (⟨l.val / 32 + b, by omega⟩ : Fin 128)) (ix2 ⟨16 * h.val + p.val, by omega⟩ ⟨l.val / 32 + b, by omega⟩) (fun c => by
      match c with
      | ⟨0, _⟩ => show 16 * h.val + p.val = off 0 + p.val; omega
      | ⟨1, _⟩ => show l.val / 32 + b = off 1 + (l.val / 32 + b); omega)
  match h with
  | 0 => exact row 0 ![0, 0] (by decide) rfl rfl hidx
  | 1 => exact row 1 ![16, 0] (by decide) rfl rfl hidx

/-- The NF4 value of a code. -/
def nf4 (c : Fin 16) : EReal := Ideal.ofBits .bf16 (nf4Word c)

/-- One tile at an index: the code's NF4 value times the absmax of its group of 32 packed columns. -/
theorem tile_apply (p h : Fin 2) (b : Nat) (hb : b + 3 < 56) (off : EReal) (s : Fin 7 → EReal) (q : IVec T32x56 8)
    (w : IVec T32x128 8) (r : Fin 16) (l : Fin 128) :
    tile (F := Ideal) p h (BitVec.ofNat 32 b) (strip (F := Ideal) off (s 0) (s 1) (s 2) (s 3) (s 4) (s 5) (s 6) q) w (ix3 0 r l)
      = nf4 (code p (w (ix2 ⟨16 * h.val + r.val, by omega⟩ l)))
        * ((((q (ix2 ⟨16 * h.val + r.val, by omega⟩ ⟨l.val / 32 + b, by omega⟩)).toInt : ℝ) : EReal)
            * s ⟨((16 * h.val + r.val) * 56 + (l.val / 32 + b)) / 256, by omega⟩ + off) := by
  unfold tile
  rw [shapeCast_addUnit_apply]
  show (_ : EReal) * _ = _
  have e : (fun a : Fin 2 => (ix3 (0 : Fin 1) r l : T1x16x128.Idx) a.succ) = (ix2 r l : T16x128.Idx) := by
    funext c
    match c with
    | ⟨0, _⟩ => rfl
    | ⟨1, _⟩ => rfl
  rw [e]
  have hl := l.isLt
  have d := decoded_apply (F := Ideal) p h w r l
  have sp := spread_apply h b (by omega) (strip (F := Ideal) off (s 0) (s 1) (s 2) (s 3) (s 4) (s 5) (s 6) q) r l
  have st := strip_apply off s q ⟨16 * h.val + r.val, by omega⟩ ⟨l.val / 32 + b, by omega⟩
  exact congrArg₂ (· * ·) d (sp.trans st)

/-- One tile of the result at an index: column `64h + l / 2` of the even or of the odd accumulator, by the lane's parity. -/
theorem interleaved_apply (h : Fin 2) (e o : FVec Ideal T1x16x128 .f32) (r : Fin 16) (l : Fin 128) :
    interleaved (F := Ideal) h e o (ix3 0 r l)
      = (if l.val % 2 = 0 then e else o) (ix3 0 r ⟨64 * h.val + l.val / 2, by omega⟩) := by
  unfold interleaved
  rw [shapeCast_addUnit_apply]
  have ei : (fun a : Fin 2 => (ix3 (0 : Fin 1) r l : T1x16x128.Idx) a.succ) = (ix2 r l : T16x128.Idx) := by
    funext c
    match c with
    | ⟨0, _⟩ => rfl
    | ⟨1, _⟩ => rfl
  have hl := l.isLt
  rw [ei]
  have hidx : ((addi (laneDiv 2#32) (broadcast T16x128 (colStart h)) : IVec T16x128 32) (ix2 r l)).toNat % 128
      = (⟨64 * h.val + l.val / 2, by omega⟩ : Fin 128).val := by
    have := laneDiv_apply 2 (Or.inr rfl) r l
    have eh : colStart h = BitVec.ofNat 32 (64 * h.val) := by
      match h with
      | 0 => rfl
      | 1 => rfl
    show (laneDiv 2#32 (ix2 r l) + colStart h).toNat % 128 = 64 * h.val + l.val / 2
    rw [show (2#32 : BitVec 32) = BitVec.ofNat 32 2 from rfl, this, eh, ← BitVec.ofNat_add, BitVec.toNat_ofNat]
    omega
  have pick (x : FVec Ideal T1x16x128 .f32) (idx : IVec T16x128 32)
      (hi : (idx (ix2 r l)).toNat % 128 = (⟨64 * h.val + l.val / 2, by omega⟩ : Fin 128).val) :
      laneGather (extf .f32 (truncf .bf16 (shapeCast T16x128 x (by decide) : FVec Ideal T16x128 .f32) (by decide)) (by decide) : FVec Ideal T16x128 .f32) idx (ix2 r l)
        = x (ix3 0 r ⟨64 * h.val + l.val / 2, by omega⟩) := by
    rw [laneGather_apply _ _ r l _ hi]
    show shapeCast T16x128 x _ (ix2 r _) = _
    rw [shapeCast_dropUnit_apply]
    congr 1
    funext c
    match c with
    | ⟨0, _⟩ => rfl
    | ⟨1, _⟩ => rfl
    | ⟨2, _⟩ => rfl
  show Scalar.select (laneEven (ix2 r l)) (laneGather _ _ (ix2 r l)) (laneGather _ _ (ix2 r l)) = _
  refine (congrArg₂ (Scalar.select _) (pick e _ hidx) (pick o _ hidx)).trans ?_
  rw [laneEven_apply]
  by_cases hp : l.val % 2 = 0 <;> simp [hp, Scalar.select]

end Nf4
-- ==== Proof.Reference.lean ====
/-
  WHAT THE REFERENCE COMPUTES, on the extended reals, at an index: column `2·n + p` of a row of the result is the
  contraction of the gradient's row with column `n` of the dequantized weight of nibble `p`
  (`result_apply`); the weight is the NF4 value of the code times the absmax of the code's 32 columns (`weight`).
-/
module

public import proofs.«01_k».proof.Proof.Gen.ReferenceIdeal.Run
public import proofs.«01_k».proof.Proof.Gen.ReferenceIdeal.Read
public import proofs.«01_k».proof.Proof.Absmax

@[expose] public section

noncomputable section

namespace Cert.ReferenceIdeal.Hand

open Idealize.ShloMosaic hiding ix1 ix2 ix3 ix4 eq_ix1 eq_ix2 eq_ix3 eq_ix4
open Idealize.ShloMosaic.ValueIdx
open Cert.ReferenceIdeal Cert.ReferenceIdeal.Gen Cert.ReferenceIdeal.Read
open scoped BigOperators

/-! ## The table -/

/-- The reference's choice among sixteen values by four bits. -/
def pick (g : Fin 16 → EReal) (b0 b1 b2 b3 : BitVec 1) : EReal :=
  Scalar.select b3
    (Scalar.select b2 (Scalar.select b1 (Scalar.select b0 (g 15) (g 14)) (Scalar.select b0 (g 13) (g 12)))
      (Scalar.select b1 (Scalar.select b0 (g 11) (g 10)) (Scalar.select b0 (g 9) (g 8))))
    (Scalar.select b2 (Scalar.select b1 (Scalar.select b0 (g 7) (g 6)) (Scalar.select b0 (g 5) (g 4)))
      (Scalar.select b1 (Scalar.select b0 (g 3) (g 2)) (Scalar.select b0 (g 1) (g 0))))

/-- Bit `k` of a code, as the reference tests it. -/
def testBit (x : BitVec 32) (k : BitVec 32) : BitVec 1 :=
  IntOp.cmpi .eq (IntOp.andi (IntOp.shrsi .host x k) 1#32) 1#32

theorem pick_code (g : Fin 16 → EReal) (c : Fin 16) :
    pick g (testBit (BitVec.ofNat 32 c.val) 0#32) (testBit (BitVec.ofNat 32 c.val) 1#32)
      (testBit (BitVec.ofNat 32 c.val) 2#32) (testBit (BitVec.ofNat 32 c.val) 3#32) = g c := by
  have hb : ∀ (c : Fin 16) (k : Fin 4), testBit (BitVec.ofNat 32 c.val) (BitVec.ofNat 32 k.val) = BitVec.ofBool (c.val.testBit k.val) := by
    decide
  have h0 := hb c 0
  have h1 := hb c 1
  have h2 := hb c 2
  have h3 := hb c 3
  refine (congrArg₂ (fun a b => pick g a b _ _) h0 h1).trans ((congrArg₂ (fun a b => pick g _ _ a b) h2 h3).trans ?_)
  revert c
  intro c _ _ _ _
  match c with
  | 0 => rfl
  | 1 => rfl
  | 2 => rfl
  | 3 => rfl
  | 4 => rfl
  | 5 => rfl
  | 6 => rfl
  | 7 => rfl
  | 8 => rfl
  | 9 => rfl
  | 10 => rfl
  | 11 => rfl
  | 12 => rfl
  | 13 => rfl
  | 14 => rfl
  | 15 => rfl
  | ⟨n + 16, h⟩ => exact absurd h (by omega)

/-- The table's words as the reference spells them. -/
theorem nf4Words : ∀ c : Fin 16, Nf4.nf4Word c = (![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16] : Fin 16 → BitVec 16) c := by
  decide

variable (x0 : (⟨S1x256x18944, .bf16⟩ : BufTy).Contents (Elt Ideal)) (x1 : (⟨S18944x1792, .i8⟩ : BufTy).Contents (Elt Ideal))
  (x2 : (⟨S18944x56, .i8⟩ : BufTy).Contents (Elt Ideal)) (x3 : (⟨S4144, .f32⟩ : BufTy).Contents (Elt Ideal)) (x4 : (⟨S1, .f32⟩ : BufTy).Contents (Elt Ideal))

theorem lowCode : ∀ b : BitVec 8, IntOp.andi (b.setWidth 32) 15#32 = BitVec.ofNat 32 (Nf4.code 0 b).val := by decide
theorem highCode : ∀ b : BitVec 8, IntOp.shrsi .host (b.setWidth 32) 4#32 = BitVec.ofNat 32 (Nf4.code 1 b).val := by decide

/-- The table as the reference spells it, at a code. -/
theorem pick_nf4 (c : Fin 16) :
    pick (fun c => Ideal.ofBits .bf16 ((![0xBF80#16, 0xBF32#16, 0xBF06#16, 0xBECA#16, 0xBE92#16, 0xBE3D#16, 0xBDBA#16, 0x0000#16,
        0x3DA3#16, 0x3E25#16, 0x3E7C#16, 0x3EAD#16, 0x3EE2#16, 0x3F10#16, 0x3F39#16, 0x3F80#16] : Fin 16 → BitVec 16) c))
      (testBit (BitVec.ofNat 32 c.val) 0#32) (testBit (BitVec.ofNat 32 c.val) 1#32)
      (testBit (BitVec.ofNat 32 c.val) 2#32) (testBit (BitVec.ofNat 32 c.val) 3#32) = Nf4.nf4 c := by
  rw [pick_code]
  exact congrArg _ (nf4Words c).symm

/-- The NF4 values of the low nibbles. -/
theorem low_apply (i : S18944x1792.Idx) : val_main_v54 (F := Ideal) x1 i = Nf4.nf4 (Nf4.code 0 (x1 i)) := by
  simp only [
    val_main_v11_apply, val_main_c_apply, val_main_v12_apply, val_main_v13_apply, val_main_c_1_apply, val_main_v16_apply, val_main_v17_apply,
    val_main_c_2_apply, val_main_v18_apply, val_main_v19_apply, val_main_c_3_apply, val_main_v20_apply, val_main_v21_apply,
    val_main_c_4_apply, val_main_v22_apply, val_main_v23_apply, val_main_c_5_apply, val_main_v24_apply, val_main_v25_apply,
    val_main_c_6_apply, val_main_v26_apply, val_main_v27_apply, val_main_c_7_apply, val_main_v28_apply, val_main_v29_apply,
    val_main_c_8_apply, val_main_v30_apply, val_main_v31_apply, val_main_c_9_apply, val_main_v32_apply, val_main_v33_apply,
    val_main_c_10_apply, val_main_v34_apply, val_main_v35_apply, val_main_c_11_apply, val_main_v36_apply, val_main_v37_apply,
    val_main_c_12_apply, val_main_v38_apply, val_main_v39_apply, val_main_cst_apply, val_main_cst_13_apply, val_main_call0_v0_apply,
    val_main_call0_v1_apply, val_main_v40_apply, val_main_cst_14_apply, val_main_cst_15_apply, val_main_call1_v0_apply,
    val_main_call1_v1_apply, val_main_v41_apply, val_main_v42_apply, val_main_cst_16_apply, val_main_cst_17_apply, val_main_call3_v0_apply,
    val_main_call3_v1_apply, val_main_v43_apply, val_main_cst_18_apply, val_main_cst_19_apply, val_main_call4_v0_apply,
    val_main_call4_v1_apply, val_main_v44_apply, val_main_v45_apply, val_main_v46_apply, val_main_cst_20_apply, val_main_cst_21_apply,
    val_main_call7_v0_apply, val_main_call7_v1_apply, val_main_v47_apply, val_main_cst_22_apply, val_main_cst_23_apply,
    val_main_call8_v0_apply, val_main_call8_v1_apply, val_main_v48_apply, val_main_v49_apply, val_main_cst_24_apply, val_main_cst_25_apply,
    val_main_call10_v0_apply, val_main_call10_v1_apply, val_main_v50_apply, val_main_cst_26_apply, val_main_cst_27_apply,
    val_main_call11_v0_apply, val_main_call11_v1_apply, val_main_v51_apply, val_main_v52_apply, val_main_v53_apply, val_main_v54_apply]
  rw [lowCode]
  exact pick_nf4 _

/-- The NF4 values of the high nibbles. -/
theorem high_apply (i : S18944x1792.Idx) : val_main_v98 (F := Ideal) x1 i = Nf4.nf4 (Nf4.code 1 (x1 i)) := by
  simp only [
    val_main_v11_apply, val_main_c_0_apply, val_main_v14_apply, val_main_v15_apply, val_main_c_28_apply, val_main_v60_apply,
    val_main_v61_apply, val_main_c_29_apply, val_main_v62_apply, val_main_v63_apply, val_main_c_30_apply, val_main_v64_apply,
    val_main_v65_apply, val_main_c_31_apply, val_main_v66_apply, val_main_v67_apply, val_main_c_32_apply, val_main_v68_apply,
    val_main_v69_apply, val_main_c_33_apply, val_main_v70_apply, val_main_v71_apply, val_main_c_34_apply, val_main_v72_apply,
    val_main_v73_apply, val_main_c_35_apply, val_main_v74_apply, val_main_v75_apply, val_main_c_36_apply, val_main_v76_apply,
    val_main_v77_apply, val_main_c_37_apply, val_main_v78_apply, val_main_v79_apply, val_main_c_38_apply, val_main_v80_apply,
    val_main_v81_apply, val_main_c_39_apply, val_main_v82_apply, val_main_v83_apply, val_main_cst_40_apply, val_main_cst_41_apply,
    val_main_call15_v0_apply, val_main_call15_v1_apply, val_main_v84_apply, val_main_cst_42_apply, val_main_cst_43_apply,
    val_main_call16_v0_apply, val_main_call16_v1_apply, val_main_v85_apply, val_main_v86_apply, val_main_cst_44_apply, val_main_cst_45_apply,
    val_main_call18_v0_apply, val_main_call18_v1_apply, val_main_v87_apply, val_main_cst_46_apply, val_main_cst_47_apply,
    val_main_call19_v0_apply, val_main_call19_v1_apply, val_main_v88_apply, val_main_v89_apply, val_main_v90_apply, val_main_cst_48_apply,
    val_main_cst_49_apply, val_main_call22_v0_apply, val_main_call22_v1_apply, val_main_v91_apply, val_main_cst_50_apply,
    val_main_cst_51_apply, val_main_call23_v0_apply, val_main_call23_v1_apply, val_main_v92_apply, val_main_v93_apply, val_main_cst_52_apply,
    val_main_cst_53_apply, val_main_call25_v0_apply, val_main_call25_v1_apply, val_main_v94_apply, val_main_cst_54_apply,
    val_main_cst_55_apply, val_main_call26_v0_apply, val_main_call26_v1_apply, val_main_v95_apply, val_main_v96_apply, val_main_v97_apply,
    val_main_v98_apply]
  rw [highCode]
  exact pick_nf4 _

/-! ## The weight -/

/-- The absmax of row `o`'s group `b`: its value scaled by its group of 256 in row-major order, plus the offset. -/
def absmax (o : Fin 18944) (b : Fin 56) : EReal :=
  (((x2 (ix2 o b)).toInt : ℝ) : EReal) * x3 (ix1 ⟨(o.val * 56 + b.val) / 256, by omega⟩) + x4 (ix1 0)

theorem absmax_apply (o : Fin 18944) (b : Fin 56) : val_main_v10 (F := Ideal) x2 x3 x4 (ix2 o b) = absmax x2 x3 x4 o b := by
  rw [val_main_v10_apply, val_main_v9_apply, val_main_v8_apply, val_main_v5_apply, val_main_v2_apply, val_main_v1_apply, val_main_v0_apply,
    val_main_v4_apply, val_main_v3_apply, val_main_v7_apply]
  have e2 : idx_main_v2 (idx_main_v9 (ix2 o b)) = ix2 o b := by
    funext a
    match a with
    | ⟨0, _⟩ => exact Fin.ext (by
        show ((o.val * 56 + b.val) / 256 * 256 + (o.val * 56 + b.val) % 256) / 56 = o.val
        omega)
    | ⟨1, _⟩ => exact Fin.ext (by
        show ((o.val * 56 + b.val) / 256 * 256 + (o.val * 56 + b.val) % 256) % 56 = b.val
        omega)
  have e3 : idx_main_v3 (idx_main_v4 (idx_main_v9 (ix2 o b))) = ix1 ⟨(o.val * 56 + b.val) / 256, by omega⟩ := by
    funext a
    match a with
    | ⟨0, _⟩ => rfl
  have e6 (j : S_.Idx) : val_main_v6 (F := Ideal) x4 j = x4 (ix1 0) := by
    unfold val_main_v6
    exact shapeCast_apply x4 shapeCasts_S1_S_ j (ix1 0) (by
      have h1 := (S1.rowMajor (ix1 0)).isLt
      have h2 := (S_.rowMajor j).isLt
      have n1 : S1.numel = 1 := by decide
      have n2 : S_.numel = 1 := by decide
      show (S1.rowMajor (ix1 0)).val = (S_.rowMajor j).val
      omega)
  rw [e2, e3, e6]
  show (((((x2 (ix2 o b)).signExtend 32).toInt : ℝ) : EReal) * _ + _ : EReal) = _
  rw [BitVec.toInt_signExtend_of_le (by decide)]
  rfl

/-- The dequantized weight of nibble `p` at row `o` and packed column `n`. -/
def weight (p : Fin 2) (o : Fin 18944) (n : Fin 1792) : EReal :=
  Nf4.nf4 (Nf4.code p (x1 (ix2 o n))) * absmax x2 x3 x4 o ⟨n.val / 32, by omega⟩

theorem weight0_apply (o : Fin 18944) (n : Fin 1792) : val_main_v59 (F := Ideal) x1 x2 x3 x4 (ix2 o n) = weight x1 x2 x3 x4 0 o n := by
  rw [val_main_v59_apply, val_main_v58_apply, val_main_v55_apply, low_apply, val_main_v57_apply, val_main_v56_apply]
  have e1 : idx_main_v55 (idx_main_v59 (ix2 o n)) = ix2 o n := by
    funext a
    match a with
    | ⟨0, _⟩ => exact Fin.ext (by
        show (((o.val * 1792 + n.val) / 1792 * 56 + (o.val * 1792 + n.val) / 32 % 56) * 32 + (o.val * 1792 + n.val) % 32) / 1792 = o.val
        omega)
    | ⟨1, _⟩ => exact Fin.ext (by
        show (((o.val * 1792 + n.val) / 1792 * 56 + (o.val * 1792 + n.val) / 32 % 56) * 32 + (o.val * 1792 + n.val) % 32) % 1792 = n.val
        omega)
  have e2 : idx_main_v56 (idx_main_v57 (idx_main_v59 (ix2 o n))) = ix2 o ⟨n.val / 32, by omega⟩ := by
    funext a
    match a with
    | ⟨0, _⟩ => exact Fin.ext (by show (o.val * 1792 + n.val) / 1792 = o.val; omega)
    | ⟨1, _⟩ => exact Fin.ext (by show (o.val * 1792 + n.val) / 32 % 56 = n.val / 32; omega)
  rw [e1, e2, absmax_apply]
  rfl

theorem weight1_apply (o : Fin 18944) (n : Fin 1792) : val_main_v103 (F := Ideal) x1 x2 x3 x4 (ix2 o n) = weight x1 x2 x3 x4 1 o n := by
  rw [val_main_v103_apply, val_main_v102_apply, val_main_v99_apply, high_apply, val_main_v101_apply, val_main_v100_apply]
  have e1 : idx_main_v99 (idx_main_v103 (ix2 o n)) = ix2 o n := by
    funext a
    match a with
    | ⟨0, _⟩ => exact Fin.ext (by
        show (((o.val * 1792 + n.val) / 1792 * 56 + (o.val * 1792 + n.val) / 32 % 56) * 32 + (o.val * 1792 + n.val) % 32) / 1792 = o.val
        omega)
    | ⟨1, _⟩ => exact Fin.ext (by
        show (((o.val * 1792 + n.val) / 1792 * 56 + (o.val * 1792 + n.val) / 32 % 56) * 32 + (o.val * 1792 + n.val) % 32) % 1792 = n.val
        omega)
  have e2 : idx_main_v100 (idx_main_v101 (idx_main_v103 (ix2 o n))) = ix2 o ⟨n.val / 32, by omega⟩ := by
    funext a
    match a with
    | ⟨0, _⟩ => exact Fin.ext (by show (o.val * 1792 + n.val) / 1792 = o.val; omega)
    | ⟨1, _⟩ => exact Fin.ext (by show (o.val * 1792 + n.val) / 32 % 56 = n.val / 32; omega)
  rw [e1, e2, absmax_apply]
  rfl

/-! ## The result -/

/-- Row `r` of the gradient against column `n` of the weight of nibble `p`. -/
def product (p : Fin 2) (r : Fin 256) (n : Fin 1792) : EReal :=
  ∑ o : Fin 18944, x0 (ix3 0 r o) * weight x1 x2 x3 x4 p o n

theorem product0_apply (r : Fin 256) (n : Fin 1792) : val_main_v104 (F := Ideal) x0 x1 x2 x3 x4 (ix3 0 r n) = product x0 x1 x2 x3 x4 0 r n := by
  rw [val_main_v104_apply]
  refine Finset.sum_congr rfl fun o _ => ?_
  have el : lidx_main_v104 (ix3 0 r n) o = ix3 0 r o := by
    funext a
    match a with
    | ⟨0, _⟩ => rfl
    | ⟨1, _⟩ => rfl
    | ⟨2, _⟩ => rfl
  have er : ridx_main_v104 (ix3 0 r n) o = ix2 o n := by
    funext a
    match a with
    | ⟨0, _⟩ => rfl
    | ⟨1, _⟩ => rfl
  rw [el, er, weight0_apply]

theorem product1_apply (r : Fin 256) (n : Fin 1792) : val_main_v105 (F := Ideal) x0 x1 x2 x3 x4 (ix3 0 r n) = product x0 x1 x2 x3 x4 1 r n := by
  rw [val_main_v105_apply]
  refine Finset.sum_congr rfl fun o _ => ?_
  have el : lidx_main_v105 (ix3 0 r n) o = ix3 0 r o := by
    funext a
    match a with
    | ⟨0, _⟩ => rfl
    | ⟨1, _⟩ => rfl
    | ⟨2, _⟩ => rfl
  have er : ridx_main_v105 (ix3 0 r n) o = ix2 o n := by
    funext a
    match a with
    | ⟨0, _⟩ => rfl
    | ⟨1, _⟩ => rfl
  rw [el, er, weight1_apply]

/-- The reference's result: column `n` of a row is the product with column `n / 2` of the weight of nibble `n % 2`. -/
theorem result_apply (r : Fin 256) (n : Fin 3584) :
    val_main_v110 (F := Ideal) x0 x1 x2 x3 x4 (ix3 0 r n) = product x0 x1 x2 x3 x4 ⟨n.val % 2, by omega⟩ r ⟨n.val / 2, by omega⟩ := by
  rw [val_main_v110_apply, val_main_v109_apply]
  show val_main_v108 (F := Ideal) x0 x1 x2 x3 x4 (idx_main_v109 (ix3 0 r n)) = _
  have hn := n.isLt
  have hr := r.isLt
  have q1 : ((0 * 256 + r.val) * 3584 + n.val) / 3584 % 256 = r.val := by omega
  have q2 : ((0 * 256 + r.val) * 3584 + n.val) / 2 % 1792 = n.val / 2 := by omega
  have q3 : ((0 * 256 + r.val) * 3584 + n.val) % 2 = n.val % 2 := by omega
  unfold val_main_v108
  by_cases h : n.val % 2 = 0
  · refine (concatenate_pair_apply_left (t := S1x256x1792x2) (s₁ := S1x256x1792x1) (s₂ := S1x256x1792x1) 3 _ _ _ (idx_main_v109 (ix3 0 r n)) rfl (ix4 (0 : Fin 1) r (⟨n.val / 2, by omega⟩ : Fin 1792) (0 : Fin 1)) (fun b => by
      match b with
      | ⟨0, _⟩ => rfl
      | ⟨1, _⟩ => exact q1.symm
      | ⟨2, _⟩ => exact q2.symm
      | ⟨3, _⟩ => exact (q3.trans h).symm)).trans ?_
    have ep : (⟨n.val % 2, by omega⟩ : Fin 2) = 0 := Fin.ext h
    rw [ep, ← product0_apply, val_main_v106_apply]
    congr 1
    funext a
    match a with
    | ⟨0, _⟩ => rfl
    | ⟨1, _⟩ => rfl
    | ⟨2, _⟩ => rfl
  · refine (concatenate_pair_apply_right (t := S1x256x1792x2) (s₁ := S1x256x1792x1) (s₂ := S1x256x1792x1) 3 _ _ _ (idx_main_v109 (ix3 0 r n)) rfl rfl (ix4 (0 : Fin 1) r (⟨n.val / 2, by omega⟩ : Fin 1792) (0 : Fin 1)) (fun b hb => by
      match b with
      | ⟨0, _⟩ => rfl
      | ⟨1, _⟩ => exact q1.symm
      | ⟨2, _⟩ => exact q2.symm
      | ⟨3, _⟩ => exact absurd rfl hb)
      (by show 0 + 1 = ((0 * 256 + r.val) * 3584 + n.val) % 2; omega)).trans ?_
    have ep : (⟨n.val % 2, by omega⟩ : Fin 2) = 1 := Fin.ext (by show n.val % 2 = 1; omega)
    rw [ep, ← product1_apply, val_main_v107_apply]
    congr 1
    funext a
    match a with
    | ⟨0, _⟩ => rfl
    | ⟨1, _⟩ => rfl
    | ⟨2, _⟩ => rfl

end Cert.ReferenceIdeal.Hand
-- ==== Proof.Pieces.lean ====
/-
  THE WEIGHT BUFFER AS PIECES. At every grid point the kernel fills its weight buffer `[2, 512, 256]` by 128 stores of
  `[1, 16, 128]` tiles: strip `r` of 16, window `c` of two, nibble `p`, half `h`. Here they are ONE function of
  `(r, c, p, h)` and of what the point loaded, and each of the three cases of the body is shown to make exactly these
  stores, in this order (by unfolding).
-/
module

public import proofs.«01_k».proof.Proof.Gen.KernelIdeal.Frame.RunC
public import proofs.«01_k».proof.Proof.Tile

@[expose] public section

noncomputable section

namespace Cert.KernelIdeal.Hand

open Idealize.ShloMosaic Cert.KernelIdeal Cert.KernelIdeal.Gen Idealize.SL.Sem

variable {F : FTy → Type} [FloatOps F]

theorem tile_inb (r : Fin 16) (c p h : Fin 2) :
    ∀ a, (![p.val, 32 * r.val + 16 * h.val, 128 * c.val] : Fin 3 → Nat) a + S1x16x128.size a ≤ S2x512x256.size a := by
  revert r c p h; decide

/-- The store of tile `(r, c, p, h)`: `off` the offset, `s` the strip's seven scales, `q` its quantized absmax, `w` the
    window's packed bytes, `b` the number of the block's first absmax. -/
def wpiece (off : Elt F .f32) (s : Fin 16 → Fin 7 → Elt F .f32) (q : Fin 16 → Vec F S32x56 .i8)
    (w : Fin 16 → Fin 2 → Vec F S32x128 .i8) (b : BitVec 32) (r : Fin 16) (c p h : Fin 2) :
    View.Piece (Elt F) S2x512x256 .bf16 :=
  ⟨Rect.unit ![p.val, 32 * r.val + 16 * h.val, 128 * c.val] S1x16x128.size (tile_inb r c p h),
    Nf4.tile p h (Scalar.addi b (BitVec.ofNat 32 (4 * c.val)))
      (Nf4.strip off (s r 0) (s r 1) (s r 2) (s r 3) (s r 4) (s r 5) (s r 6) (q r)) (w r c)⟩

/-- The eight tiles of a strip, the last stored first. -/
def stripPieces (off : Elt F .f32) (s : Fin 16 → Fin 7 → Elt F .f32) (q : Fin 16 → Vec F S32x56 .i8)
    (w : Fin 16 → Fin 2 → Vec F S32x128 .i8) (b : BitVec 32) (r : Fin 16) : List (View.Piece (Elt F) S2x512x256 .bf16) :=
  [wpiece off s q w b r 1 1 1, wpiece off s q w b r 1 1 0, wpiece off s q w b r 1 0 1, wpiece off s q w b r 1 0 0,
   wpiece off s q w b r 0 1 1, wpiece off s q w b r 0 1 0, wpiece off s q w b r 0 0 1, wpiece off s q w b r 0 0 0]

/-- The strips, the last first. -/
def stripOrder : List (Fin 16) := [15, 14, 13, 12, 11, 10, 9, 8, 7, 6, 5, 4, 3, 2, 1, 0]

def wpieces (off : Elt F .f32) (s : Fin 16 → Fin 7 → Elt F .f32) (q : Fin 16 → Vec F S32x56 .i8)
    (w : Fin 16 → Fin 2 → Vec F S32x128 .i8) (b : BitVec 32) : List (View.Piece (Elt F) S2x512x256 .bf16) :=
  stripOrder.flatMap (stripPieces off s q w b)

theorem q_inb (r : Fin 16) : ∀ a, (![32 * r.val, 0] : Fin 2 → Nat) a + S32x56.size a ≤ S512x56.size a := by
  revert r; decide
theorem w_inb (r : Fin 16) (c : Fin 2) :
    ∀ a, (![32 * r.val, 128 * c.val] : Fin 2 → Nat) a + S32x128.size a ≤ S512x256.size a := by
  revert r c; decide

section
variable (i : grid0.Coords) (arg2 : Memref sig .tc .smem S4144 .f32) (harg2 : arg2.IsWhole) (arg3 : Memref sig .tc .smem S1 .f32) (harg3 : arg3.IsWhole)
  (arg5 : Memref sig .tc .vmem S512x256 .i8) (harg5 : arg5.IsWhole) (arg6 : Memref sig .tc .vmem S512x56 .i8) (harg6 : arg6.IsWhole)
  (x0 : Vec F S4144 .f32) (x1 : Vec F S1 .f32) (x3 : Vec F S512x256 .i8) (x4 : Vec F S512x56 .i8)

/-- The offset, as loaded. -/
def ldOff : Elt F .f32 :=
  View.readAt (Elt F) arg3.view (Rect.unit (s := S1) ![0] S1.size inb_S1_S1_0).toLoadRect (harg3.unread x1) (Shape.Idx.first (by decide))
/-- Scale `g` of strip `r`, as loaded. -/
def ldScale (r : Fin 16) (g : Fin 7) : Elt F .f32 :=
  View.readAt (Elt F) arg2.view (Rect.unit (s := S4144) (k0_off1 i (BitVec.ofNat 32 r.val) (BitVec.ofNat 32 g.val)) S1.size (Facts₀.k0_off1_inb i r g)).toLoadRect
    (harg2.unread x0) (Shape.Idx.first (show 0 < S1.numel by decide))
/-- Strip `r` of the quantized absmax, as loaded. -/
def ldQ (r : Fin 16) : Vec F S32x56 .i8 :=
  View.readAt (Elt F) arg6.view (Rect.unit (s := S512x56) ![32 * r.val, 0] S32x56.size (q_inb r)).toLoadRect (harg6.unread x4)
/-- Window `c` of strip `r` of the packed bytes, as loaded. -/
def ldW (r : Fin 16) (c : Fin 2) : Vec F S32x128 .i8 :=
  View.readAt (Elt F) arg5.view (Rect.unit (s := S512x256) ![32 * r.val, 128 * c.val] S32x128.size (w_inb r c)).toLoadRect (harg5.unread x3)

/-- What a point stores into the weight buffer. -/
def pointPieces : List (View.Piece (Elt F) S2x512x256 .bf16) :=
  wpieces (ldOff arg3 harg3 x1) (ldScale i arg2 harg2 x0) (ldQ arg6 harg6 x4) (ldW arg5 harg5 x3)
    (Scalar.muli (BitVec.ofNat 32 (i 0).val) 8#32)

set_option maxRecDepth 65536 in
theorem pieces_A (c : Dev nD) : kernelRun0_A.sl.HS1_128 c i arg2 harg2 arg3 harg3 arg5 harg5 arg6 harg6 x0 x1 x3 x4
    = pointPieces i arg2 harg2 arg3 harg3 arg5 harg5 arg6 harg6 x0 x1 x3 x4 := rfl
set_option maxRecDepth 65536 in
theorem pieces_B (c : Dev nD) : kernelRun0_B.sl.HS1_128 c i arg2 harg2 arg3 harg3 arg5 harg5 arg6 harg6 x0 x1 x3 x4
    = pointPieces i arg2 harg2 arg3 harg3 arg5 harg5 arg6 harg6 x0 x1 x3 x4 := rfl
set_option maxRecDepth 65536 in
theorem pieces_C (c : Dev nD) : kernelRun0_C.sl.HS1_128 c i arg2 harg2 arg3 harg3 arg5 harg5 arg6 harg6 x0 x1 x3 x4
    = pointPieces i arg2 harg2 arg3 harg3 arg5 harg5 arg6 harg6 x0 x1 x3 x4 := rfl

end

/-! ## The result block -/

theorem out_inb (m : Fin 16) (c h : Fin 2) :
    ∀ a, (![0, 16 * m.val, (2 * c.val + h.val) * 128] : Fin 3 → Nat) a + S1x16x128.size a ≤ S1x256x512.size a := by
  revert m c h; decide
theorem acc_inb (m : Fin 16) (c p : Fin 2) :
    ∀ a, (![p.val, 16 * m.val, 128 * c.val] : Fin 3 → Nat) a + S1x16x128.size a ≤ S2x256x256.size a := by
  revert m c p; decide

/-- The store of result tile `(m, c, h)`, the accumulator's tiles being `E`. -/
def opiece (E : Fin 16 → Fin 2 → Fin 2 → Vec F S1x16x128 .f32) (m : Fin 16) (c h : Fin 2) :
    View.Piece (Elt F) S1x256x512 .bf16 :=
  ⟨Rect.unit ![0, 16 * m.val, (2 * c.val + h.val) * 128] S1x16x128.size (out_inb m c h),
    Nf4.interleaved h (E m c 0) (E m c 1)⟩

/-- The 64 stores of the result block, the last first. -/
def opieces (E : Fin 16 → Fin 2 → Fin 2 → Vec F S1x16x128 .f32) : List (View.Piece (Elt F) S1x256x512 .bf16) :=
  stripOrder.flatMap fun m => [opiece E m 1 1, opiece E m 1 0, opiece E m 0 1, opiece E m 0 0]

/-- Tile `(m, c)` of half `p` of the accumulator, read back from what was stored into it. -/
def ldAcc (arg8 : Memref sig .tc .vmem S2x256x256 .f32) (L : List (View.Piece (Elt F) S2x256x256 .f32))
    (m : Fin 16) (c p : Fin 2) : Vec F S1x16x128 .f32 :=
  arg8.view.readCov L (Rect.unit (s := S2x256x256) ![p.val, 16 * m.val, 128 * c.val] S1x16x128.size (acc_inb m c p)).toLoadRect

/-- The two stores of the accumulator, from its two halves `a0`, `a1` as loaded, the gradient block and the weight buffer's
    two halves. -/
def accPieces (a0 a1 : Vec F S1x256x256 .f32) (d : Vec F S1x256x512 .bf16) (w0 w1 : Vec F S1x512x256 .bf16) :
    List (View.Piece (Elt F) S2x256x256 .f32) :=
  [⟨Rect.unit (s := S2x256x256) ![1, 0, 0] S1x256x256.size inb_S2x256x256_S1x256x256_1_0_0, k0_pay2 a1 d w1⟩,
   ⟨Rect.unit (s := S2x256x256) ![0, 0, 0] S1x256x256.size inb_S2x256x256_S1x256x256_0_0_0, k0_pay2 a0 d w0⟩]

section
variable (arg9 : Memref sig .tc .vmem S2x512x256 .bf16) (arg4 : Memref sig .tc .vmem S1x256x512 .bf16) (harg4 : arg4.IsWhole)
  (arg8 : Memref sig .tc .vmem S2x256x256 .f32) (harg8 : arg8.IsWhole) (x2 : Vec F S1x256x512 .bf16) (xs0 : Vec F S2x256x256 .f32)

/-- Half `p` of the weight buffer, read back from what was stored into it. -/
def ldWbuf0 (L : List (View.Piece (Elt F) S2x512x256 .bf16)) : Vec F S1x512x256 .bf16 :=
  arg9.view.readCov L (Rect.unit (s := S2x512x256) ![0, 0, 0] S1x512x256.size inb_S2x512x256_S1x512x256_0_0_0).toLoadRect
def ldWbuf1 (L : List (View.Piece (Elt F) S2x512x256 .bf16)) : Vec F S1x512x256 .bf16 :=
  arg9.view.readCov L (Rect.unit (s := S2x512x256) ![1, 0, 0] S1x512x256.size inb_S2x512x256_S1x512x256_1_0_0).toLoadRect
/-- The gradient block, as loaded. -/
def ldD : Vec F S1x256x512 .bf16 :=
  View.readAt (Elt F) arg4.view (Rect.unit (s := S1x256x512) ![0, 0, 0] S1x256x512.size inb_S1x256x512_S1x256x512_0_0_0).toLoadRect (harg4.unread x2)
/-- The two halves of the carried accumulator, as loaded. -/
def ldAcc0 : Vec F S1x256x256 .f32 :=
  View.readAt (Elt F) arg8.view (Rect.unit (s := S2x256x256) ![0, 0, 0] S1x256x256.size inb_S2x256x256_S1x256x256_0_0_0).toLoadRect (harg8.unread xs0)
def ldAcc1 : Vec F S1x256x256 .f32 :=
  View.readAt (Elt F) arg8.view (Rect.unit (s := S2x256x256) ![1, 0, 0] S1x256x256.size inb_S2x256x256_S1x256x256_1_0_0).toLoadRect (harg8.unread xs0)

end

section
variable (c : Dev nD) (i : grid0.Coords) (arg2 : Memref sig .tc .smem S4144 .f32) (harg2 : arg2.IsWhole) (arg3 : Memref sig .tc .smem S1 .f32) (harg3 : arg3.IsWhole)
  (arg4 : Memref sig .tc .vmem S1x256x512 .bf16) (harg4 : arg4.IsWhole) (arg5 : Memref sig .tc .vmem S512x256 .i8) (harg5 : arg5.IsWhole)
  (arg6 : Memref sig .tc .vmem S512x56 .i8) (harg6 : arg6.IsWhole) (arg7 : Memref sig .tc .vmem S1x256x512 .bf16) (harg7 : arg7.IsWhole)
  (arg8 : Memref sig .tc .vmem S2x256x256 .f32) (harg8 : arg8.IsWhole) (arg9 : Memref sig .tc .vmem S2x512x256 .bf16) (harg9 : arg9.IsWhole)
  (x0 : Vec F S4144 .f32) (x1 : Vec F S1 .f32) (x2 : Vec F S1x256x512 .bf16) (x3 : Vec F S512x256 .i8) (x4 : Vec F S512x56 .i8) (xs0 : Vec F S2x256x256 .f32)

/-- The accumulator's stores at a middle point. -/
theorem acc_B (hc0 : ¬cond0_0 i) (hc1 : ¬cond0_1 i) :
    (kernelRun0_B c i arg2 harg2 arg3 harg3 arg4 harg4 arg5 harg5 arg6 harg6 arg7 harg7 arg8 harg8 arg9 harg9 hc0 hc1 x0 x1 x2 x3 x4 xs0).2.1
    = accPieces (ldAcc0 arg8 harg8 xs0) (ldAcc1 arg8 harg8 xs0) (ldD arg4 harg4 x2)
        (ldWbuf0 arg9 (pointPieces i arg2 harg2 arg3 harg3 arg5 harg5 arg6 harg6 x0 x1 x3 x4))
        (ldWbuf1 arg9 (pointPieces i arg2 harg2 arg3 harg3 arg5 harg5 arg6 harg6 x0 x1 x3 x4)) := by
  rw [← pieces_B i arg2 harg2 arg3 harg3 arg5 harg5 arg6 harg6 x0 x1 x3 x4 c]; rfl

/-- The accumulator's stores at the last point of a run. -/
theorem acc_C (hc0 : ¬cond0_0 i) (hc1 : cond0_1 i) :
    (kernelRun0_C c i arg2 harg2 arg3 harg3 arg4 harg4 arg5 harg5 arg6 harg6 arg7 harg7 arg8 harg8 arg9 harg9 hc0 hc1 x0 x1 x2 x3 x4 xs0).2.1
    = accPieces (ldAcc0 arg8 harg8 xs0) (ldAcc1 arg8 harg8 xs0) (ldD arg4 harg4 x2)
        (ldWbuf0 arg9 (pointPieces i arg2 harg2 arg3 harg3 arg5 harg5 arg6 harg6 x0 x1 x3 x4))
        (ldWbuf1 arg9 (pointPieces i arg2 harg2 arg3 harg3 arg5 harg5 arg6 harg6 x0 x1 x3 x4)) := by
  rw [← pieces_C i arg2 harg2 arg3 harg3 arg5 harg5 arg6 harg6 x0 x1 x3 x4 c]; rfl

/-- The accumulator zeroed, as the first store of a run's first point leaves it. -/
def zeroPieces : List (View.Piece (Elt F) S2x256x256 .f32) :=
  [⟨Rect.unit (s := S2x256x256) ![0, 0, 0] S2x256x256.size inb_S2x256x256_S2x256x256_0_0_0, k0_pay371⟩]

/-- The accumulator's stores at the first point of a run: zeroed, then half `0`, then half `1` (read back after the
    store of half `0`). -/
theorem acc_A (hc0 : cond0_0 i) (hc1 : ¬cond0_1 i) :
    (kernelRun0_A c i arg2 harg2 arg3 harg3 arg4 harg4 arg5 harg5 arg6 harg6 arg7 harg7 arg8 harg8 arg9 harg9 hc0 hc1 x0 x1 x2 x3 x4).2.1
    = (let W := pointPieces i arg2 harg2 arg3 harg3 arg5 harg5 arg6 harg6 x0 x1 x3 x4
       let a0 : Vec F S1x256x256 .f32 := arg8.view.readCov zeroPieces (Rect.unit (s := S2x256x256) ![0, 0, 0] S1x256x256.size inb_S2x256x256_S1x256x256_0_0_0).toLoadRect
       let L1 : List (View.Piece (Elt F) S2x256x256 .f32) :=
         ⟨Rect.unit (s := S2x256x256) ![0, 0, 0] S1x256x256.size inb_S2x256x256_S1x256x256_0_0_0, k0_pay2 a0 (ldD arg4 harg4 x2) (ldWbuf0 arg9 W)⟩ :: zeroPieces
       let a1 : Vec F S1x256x256 .f32 := arg8.view.readCov L1 (Rect.unit (s := S2x256x256) ![1, 0, 0] S1x256x256.size inb_S2x256x256_S1x256x256_1_0_0).toLoadRect
       ⟨Rect.unit (s := S2x256x256) ![1, 0, 0] S1x256x256.size inb_S2x256x256_S1x256x256_1_0_0, k0_pay2 a1 (ldD arg4 harg4 x2) (ldWbuf1 arg9 W)⟩ :: L1) := by
  rw [← pieces_A i arg2 harg2 arg3 harg3 arg5 harg5 arg6 harg6 x0 x1 x3 x4 c]; rfl

set_option maxRecDepth 65536 in
/-- The result block's stores: made from the accumulator read back. -/
theorem out_C (hc0 : ¬cond0_0 i) (hc1 : cond0_1 i) :
    (kernelRun0_C c i arg2 harg2 arg3 harg3 arg4 harg4 arg5 harg5 arg6 harg6 arg7 harg7 arg8 harg8 arg9 harg9 hc0 hc1 x0 x1 x2 x3 x4 xs0).1
    = opieces (ldAcc arg8 (kernelRun0_C c i arg2 harg2 arg3 harg3 arg4 harg4 arg5 harg5 arg6 harg6 arg7 harg7 arg8 harg8 arg9 harg9 hc0 hc1 x0 x1 x2 x3 x4 xs0).2.1) := rfl

end

end Cert.KernelIdeal.Hand
-- ==== Proof.Point.lean ====
/-
  WHAT ONE GRID POINT COMPUTES, on the extended reals, at an index. From the blocks the point loaded: the weight buffer
  holds the dequantized weight block (`wbuf_apply`); each half of the accumulator grows by the gradient block times that
  half (`sout_A_apply`, `sout_B_apply`, `sout_C_apply`); the result block at the last point of a run is the two halves
  with even and odd columns woven together (`out_C_apply`).
-/
module

public import Idealize.ShloMosaic.Lib.MatmulPlain
public import Idealize.ShloMosaic.Lib.Pipeline.ValueKit.Tiles
public import proofs.«01_k».proof.Proof.Gen.KernelIdeal.Value
public import proofs.«01_k».proof.Proof.Pieces
public import proofs.«01_k».proof.Proof.Absmax

@[expose] public section

noncomputable section

namespace Cert.KernelIdeal.Hand

open Idealize.ShloMosaic hiding ix1 ix2 ix3 ix4 eq_ix1 eq_ix2 eq_ix3 eq_ix4
open Idealize.ShloMosaic.ValueIdx
open Cert.KernelIdeal Cert.KernelIdeal.Gen Idealize.SL.Sem
open scoped BigOperators

/-! ## Reading the stores back -/

theorem mem_stripOrder (r : Fin 16) : r ∈ stripOrder := by revert r; decide

/-- The weight buffer read at an index: `v`, when each tile holding the index has the value `v` there. -/
theorem canon_wpieces (off : EReal) (s : Fin 16 → Fin 7 → EReal) (q : Fin 16 → Vec Ideal S32x56 .i8)
    (w : Fin 16 → Fin 2 → Vec Ideal S32x128 .i8) (b : BitVec 32) (p : Fin 2) (o : Fin 512) (col : Fin 256) (v : EReal)
    (H : ∀ (r : Fin 16) (c h : Fin 2) (x : Fin 16) (l : Fin 128), o.val = 32 * r.val + 16 * h.val + x.val → col.val = 128 * c.val + l.val →
      (wpiece (F := Ideal) off s q w b r c p h).2 (ix3 0 x l : S1x16x128.Idx) = v) :
    View.canon (Val := Elt Ideal) (wpieces (F := Ideal) off s q w b) (ix3 p o col) = v := by
  have mem (r : Fin 16) (c p h : Fin 2) : wpiece (F := Ideal) off s q w b r c p h ∈ wpieces (F := Ideal) off s q w b := by
    refine List.mem_flatMap.2 ⟨r, mem_stripOrder r, ?_⟩
    unfold stripPieces
    match c, p, h with
    | 0, 0, 0 => simp
    | 0, 0, 1 => simp
    | 0, 1, 0 => simp
    | 0, 1, 1 => simp
    | 1, 0, 0 => simp
    | 1, 0, 1 => simp
    | 1, 1, 0 => simp
    | 1, 1, 1 => simp
  have ho := o.isLt
  have hcol := col.isLt
  refine View.canon_eq_of_allAt _ _ _ ⟨_, mem ⟨o.val / 32, by omega⟩ ⟨col.val / 128, by omega⟩ p ⟨o.val % 32 / 16, by omega⟩, ?_⟩ ?_
  · refine (Rect.mem_set_unit (inb := tile_inb _ _ _ _)).2 fun a => ?_
    match a with
    | ⟨0, _⟩ => exact ⟨Nat.le_refl _, Nat.lt_succ_self _⟩
    | ⟨1, _⟩ =>
      show 32 * (o.val / 32) + 16 * (o.val % 32 / 16) ≤ o.val ∧ o.val < 32 * (o.val / 32) + 16 * (o.val % 32 / 16) + 16
      omega
    | ⟨2, _⟩ =>
      show 128 * (col.val / 128) ≤ col.val ∧ col.val < 128 * (col.val / 128) + 128
      omega
  · intro pc hpc x hx
    obtain ⟨r, _, hr⟩ := List.mem_flatMap.1 hpc
    have key : ∃ c p' h, pc = wpiece (F := Ideal) off s q w b r c p' h := by
      unfold stripPieces at hr
      simp only [List.mem_cons, List.not_mem_nil, or_false] at hr
      rcases hr with h | h | h | h | h | h | h | h <;> exact ⟨_, _, _, h⟩
    obtain ⟨c, p', h, rfl⟩ := key
    have e0 : p'.val + 1 * (x 0).val = p.val := congrArg (fun y : S2x512x256.Idx => (y 0).val) hx
    have e1 : 32 * r.val + 16 * h.val + 1 * (x 1).val = o.val := congrArg (fun y : S2x512x256.Idx => (y 1).val) hx
    have e2 : 128 * c.val + 1 * (x 2).val = col.val := congrArg (fun y : S2x512x256.Idx => (y 2).val) hx
    have hx0 : (x 0).val < 1 := (x 0).isLt
    have ep : p' = p := Fin.ext (by omega)
    subst ep
    have ex : x = (ix3 0 (x 1) (x 2) : S1x16x128.Idx) := by
      funext a
      match a with
      | ⟨0, _⟩ => exact Fin.ext (by show (x 0).val = 0; omega)
      | ⟨1, _⟩ => rfl
      | ⟨2, _⟩ => rfl
    rw [ex]
    exact H r c h (x 1) (x 2) (by omega) (by omega)

/-- The result block read at an index. -/
theorem canon_opieces (E : Fin 16 → Fin 2 → Fin 2 → Vec Ideal S1x16x128 .f32) (r : Fin 256) (n : Fin 512) (v : EReal)
    (H : ∀ (m : Fin 16) (c h : Fin 2) (x : Fin 16) (l : Fin 128), r.val = 16 * m.val + x.val → n.val = (2 * c.val + h.val) * 128 + l.val →
      Nf4.interleaved (F := Ideal) h (E m c 0) (E m c 1) (ix3 0 x l) = v) :
    View.canon (Val := Elt Ideal) (opieces (F := Ideal) E) (ix3 0 r n) = v := by
  have mem (m : Fin 16) (c h : Fin 2) : opiece (F := Ideal) E m c h ∈ opieces (F := Ideal) E := by
    refine List.mem_flatMap.2 ⟨m, mem_stripOrder m, ?_⟩
    match c, h with
    | 0, 0 => simp
    | 0, 1 => simp
    | 1, 0 => simp
    | 1, 1 => simp
  have hr := r.isLt
  have hn := n.isLt
  refine View.canon_eq_of_allAt _ _ _ ⟨_, mem ⟨r.val / 16, by omega⟩ ⟨n.val / 256, by omega⟩ ⟨n.val % 256 / 128, by omega⟩, ?_⟩ ?_
  · refine (Rect.mem_set_unit (inb := out_inb _ _ _)).2 fun a => ?_
    match a with
    | ⟨0, _⟩ => exact ⟨Nat.le_refl _, Nat.lt_succ_self _⟩
    | ⟨1, _⟩ =>
      show 16 * (r.val / 16) ≤ r.val ∧ r.val < 16 * (r.val / 16) + 16
      omega
    | ⟨2, _⟩ =>
      show (2 * (n.val / 256) + n.val % 256 / 128) * 128 ≤ n.val ∧ n.val < (2 * (n.val / 256) + n.val % 256 / 128) * 128 + 128
      omega
  · intro pc hpc x hx
    obtain ⟨m, _, hm⟩ := List.mem_flatMap.1 hpc
    have key : ∃ c h, pc = opiece (F := Ideal) E m c h := by
      simp only [List.mem_cons, List.not_mem_nil, or_false] at hm
      rcases hm with h | h | h | h <;> exact ⟨_, _, h⟩
    obtain ⟨c, h, rfl⟩ := key
    have e1 : 16 * m.val + 1 * (x 1).val = r.val := congrArg (fun y : S1x256x512.Idx => (y 1).val) hx
    have e2 : (2 * c.val + h.val) * 128 + 1 * (x 2).val = n.val := congrArg (fun y : S1x256x512.Idx => (y 2).val) hx
    have hx0 : (x 0).val < 1 := (x 0).isLt
    have ex : x = (ix3 0 (x 1) (x 2) : S1x16x128.Idx) := by
      funext a
      match a with
      | ⟨0, _⟩ => exact Fin.ext (by show (x 0).val = 0; omega)
      | ⟨1, _⟩ => rfl
      | ⟨2, _⟩ => rfl
    rw [ex]
    exact H m c h (x 1) (x 2) (by omega) (by omega)

abbrev half0 : Rect S2x256x256 := Rect.unit (s := S2x256x256) ![0, 0, 0] S1x256x256.size inb_S2x256x256_S1x256x256_0_0_0
abbrev half1 : Rect S2x256x256 := Rect.unit (s := S2x256x256) ![1, 0, 0] S1x256x256.size inb_S2x256x256_S1x256x256_1_0_0

theorem half0_emb (r col : Fin 256) : half0.emb (ix3 0 r col : S1x256x256.Idx) = (ix3 0 r col : S2x256x256.Idx) := by
  funext a
  match a with
  | ⟨0, _⟩ => exact Fin.ext rfl
  | ⟨1, _⟩ => exact Fin.ext (by show 0 + 1 * r.val = r.val; omega)
  | ⟨2, _⟩ => exact Fin.ext (by show 0 + 1 * col.val = col.val; omega)
theorem half1_emb (r col : Fin 256) : half1.emb (ix3 0 r col : S1x256x256.Idx) = (ix3 1 r col : S2x256x256.Idx) := by
  funext a
  match a with
  | ⟨0, _⟩ => exact Fin.ext rfl
  | ⟨1, _⟩ => exact Fin.ext (by show 0 + 1 * r.val = r.val; omega)
  | ⟨2, _⟩ => exact Fin.ext (by show 0 + 1 * col.val = col.val; omega)

/-- A store of half `0` on top, read in half `0` and in half `1`; and a store of half `1`. -/
theorem canon_half0_0 (w : Vec Ideal S1x256x256 .f32) (L : List (View.Piece (Elt Ideal) S2x256x256 .f32)) (r col : Fin 256) :
    View.canon (Val := Elt Ideal) (⟨half0, w⟩ :: L) (ix3 0 r col) = w (ix3 0 r col) := by
  rw [← half0_emb]; exact View.canon_cons_emb half0 w L (ix3 0 r col)
theorem canon_half0_1 (w : Vec Ideal S1x256x256 .f32) (L : List (View.Piece (Elt Ideal) S2x256x256 .f32)) (r col : Fin 256) :
    View.canon (Val := Elt Ideal) (⟨half0, w⟩ :: L) (ix3 1 r col) = View.canon (Val := Elt Ideal) L (ix3 1 r col) :=
  View.canon_cons_of_not_mem _ _ fun h => by
    have this : (1 : ℕ) < 0 + 1 := ((Rect.mem_set_unit (inb := inb_S2x256x256_S1x256x256_0_0_0)).1 h (0 : Fin 3)).2
    exact absurd this (by decide)
theorem canon_half1_1 (w : Vec Ideal S1x256x256 .f32) (L : List (View.Piece (Elt Ideal) S2x256x256 .f32)) (r col : Fin 256) :
    View.canon (Val := Elt Ideal) (⟨half1, w⟩ :: L) (ix3 1 r col) = w (ix3 0 r col) := by
  rw [← half1_emb]; exact View.canon_cons_emb half1 w L (ix3 0 r col)
theorem canon_half1_0 (w : Vec Ideal S1x256x256 .f32) (L : List (View.Piece (Elt Ideal) S2x256x256 .f32)) (r col : Fin 256) :
    View.canon (Val := Elt Ideal) (⟨half1, w⟩ :: L) (ix3 0 r col) = View.canon (Val := Elt Ideal) L (ix3 0 r col) :=
  View.canon_cons_of_not_mem _ _ fun h => by
    have this : (1 : ℕ) ≤ 0 := ((Rect.mem_set_unit (inb := inb_S2x256x256_S1x256x256_1_0_0)).1 h (0 : Fin 3)).1
    exact absurd this (by decide)

/-! ## One product -/

theorem dot_plain : dot_S256x512_S512x256_S256x256_1_0_0_1_n_n = DotDims.plain 256 512 256 := rfl

/-- A half of the accumulator after the point: what it held plus the gradient block times the weight half. -/
theorem pay2_apply (a : Vec Ideal S1x256x256 .f32) (d : Vec Ideal S1x256x512 .bf16) (w : Vec Ideal S1x512x256 .bf16) (r col : Fin 256) :
    k0_pay2 (F := Ideal) a d w (ix3 0 r col) = a (ix3 0 r col) + ∑ o : Fin 512, d (ix3 0 r o) * w (ix3 0 o col) := by
  have drop {n m : Nat} {α : Type} (v : (⟨3, ![1, n, m]⟩ : Shape).Idx → α) (h) (i : Fin n) (j : Fin m) :
      shapeCast ⟨2, ![n, m]⟩ v h (ix2 i j) = v (ix3 0 i j) := by
    rw [shapeCast_dropUnit_apply]
    congr 1
    funext c
    match c with
    | ⟨0, _⟩ => rfl
    | ⟨1, _⟩ => rfl
    | ⟨2, _⟩ => rfl
  unfold k0_pay2
  rw [shapeCast_addUnit_apply]
  have e : (fun c : Fin 2 => (ix3 (0 : Fin 1) r col : S1x256x256.Idx) c.succ) = (ix2 r col : S256x256.Idx) := by
    funext c
    match c with
    | ⟨0, _⟩ => rfl
    | ⟨1, _⟩ => rfl
  rw [e]
  show (shapeCast S256x256 a _ (ix2 r col) : EReal) + FloatOps.matmul (F := Ideal) (φ₁ := .bf16) (φ₂ := .bf16) dot_S256x512_S512x256_S256x256_1_0_0_1_n_n none _ _ _ (ix2 r col) = _
  rw [dot_plain, Ideal.matmul_plain_apply]
  rw [drop a _ r col]
  have z : (constant S256x256 .f32 0x00000000#32 : FVec Ideal S256x256 .f32) (ix2 r col) = (0 : EReal) := Ideal.ofBits_zero_f32
  rw [z, zero_add]
  congr 1
  refine Finset.sum_congr rfl fun o _ => ?_
  rw [drop d _ r o, drop w _ o col]

/-! ## The loads -/

section
variable (i : grid0.Coords) (arg2 : Memref sig .tc .smem S4144 .f32) (harg2 : arg2.IsWhole) (arg3 : Memref sig .tc .smem S1 .f32) (harg3 : arg3.IsWhole)
  (arg4 : Memref sig .tc .vmem S1x256x512 .bf16) (harg4 : arg4.IsWhole)
  (arg5 : Memref sig .tc .vmem S512x256 .i8) (harg5 : arg5.IsWhole) (arg6 : Memref sig .tc .vmem S512x56 .i8) (harg6 : arg6.IsWhole)
  (arg8 : Memref sig .tc .vmem S2x256x256 .f32) (harg8 : arg8.IsWhole) (arg9 : Memref sig .tc .vmem S2x512x256 .bf16)
  (x0 : Vec Ideal S4144 .f32) (x1 : Vec Ideal S1 .f32) (x2 : Vec Ideal S1x256x512 .bf16) (x3 : Vec Ideal S512x256 .i8) (x4 : Vec Ideal S512x56 .i8)
  (xs0 : Vec Ideal S2x256x256 .f32)

theorem ldOff_eq : ldOff (F := Ideal) arg3 harg3 x1 = x1 (ix1 0) := by
  unfold ldOff
  rw [View.readAt_eq_ld, harg3.read_unread]
  exact View.ld_unit_apply_of _ _ _ _ _ _ fun a => by
    match a with
    | ⟨0, _⟩ => rfl

theorem ldScale_eq (r : Fin 16) (g : Fin 7) (n : Fin 4144) (hn : n.val = 112 * (i 1).val + 7 * r.val + g.val) :
    ldScale (F := Ideal) i arg2 harg2 x0 r g = x0 (ix1 n) := by
  unfold ldScale
  rw [View.readAt_eq_ld, harg2.read_unread]
  exact View.ld_unit_apply_of _ _ _ _ _ _ fun a => by
    match a with
    | ⟨0, _⟩ =>
      have := congrFun (k0_off1_eq i r g) 0
      show n.val = k0_off1 i (BitVec.ofNat 32 r.val) (BitVec.ofNat 32 g.val) 0 + 0
      rw [this]; exact hn

theorem ldQ_apply (r : Fin 16) (x : Fin 32) (b : Fin 56) :
    ldQ (F := Ideal) arg6 harg6 x4 r (ix2 x b) = x4 (ix2 ⟨32 * r.val + x.val, by omega⟩ b) := by
  unfold ldQ
  rw [View.readAt_eq_ld, harg6.read_unread]
  exact View.ld_unit_apply_of _ _ _ _ _ _ fun a => by
    match a with
    | ⟨0, _⟩ => rfl
    | ⟨1, _⟩ => show b.val = 0 + b.val; omega

theorem ldW_apply (r : Fin 16) (c : Fin 2) (x : Fin 32) (l : Fin 128) :
    ldW (F := Ideal) arg5 harg5 x3 r c (ix2 x l) = x3 (ix2 ⟨32 * r.val + x.val, by omega⟩ ⟨128 * c.val + l.val, by omega⟩) := by
  unfold ldW
  rw [View.readAt_eq_ld, harg5.read_unread]
  exact View.ld_unit_apply_of _ _ _ _ _ _ fun a => by
    match a with
    | ⟨0, _⟩ => rfl
    | ⟨1, _⟩ => rfl

theorem ldD_apply (r : Fin 256) (o : Fin 512) : ldD (F := Ideal) arg4 harg4 x2 (ix3 0 r o) = x2 (ix3 0 r o) := by
  unfold ldD
  rw [View.readAt_eq_ld, harg4.read_unread]
  exact View.ld_unit_apply_of _ _ _ _ _ _ fun a => by
    match a with
    | ⟨0, _⟩ => rfl
    | ⟨1, _⟩ => show r.val = 0 + r.val; omega
    | ⟨2, _⟩ => show o.val = 0 + o.val; omega

theorem ldAcc0_apply (r col : Fin 256) : ldAcc0 (F := Ideal) arg8 harg8 xs0 (ix3 0 r col) = xs0 (ix3 0 r col) := by
  unfold ldAcc0
  rw [View.readAt_eq_ld, harg8.read_unread]
  exact congrArg xs0 (half0_emb r col)
theorem ldAcc1_apply (r col : Fin 256) : ldAcc1 (F := Ideal) arg8 harg8 xs0 (ix3 0 r col) = xs0 (ix3 1 r col) := by
  unfold ldAcc1
  rw [View.readAt_eq_ld, harg8.read_unread]
  exact congrArg xs0 (half1_emb r col)

/-! ## The weight block -/

/-- The dequantized weight of nibble `p` at row `o` and packed column `col` of the point's block. -/
def weight (p : Fin 2) (o : Fin 512) (col : Fin 256) : EReal :=
  Nf4.nf4 (Nf4.code p (x3 (ix2 o col)))
    * ((((x4 (ix2 o ⟨col.val / 32 + 8 * (i 0).val, by have := (i 0).isLt; have : (i 0).val < 7 := this; omega⟩)).toInt : ℝ) : EReal)
        * x0 (ix1 ⟨((512 * (i 1).val + o.val) * 56 + (col.val / 32 + 8 * (i 0).val)) / 256, by
            have h0 : (i 0).val < 7 := (i 0).isLt
            have h1 : (i 1).val < 37 := (i 1).isLt
            omega⟩)
      + x1 (ix1 0))

theorem wbuf_apply (p : Fin 2) (o : Fin 512) (col : Fin 256) :
    View.canon (Val := Elt Ideal) (pointPieces (F := Ideal) i arg2 harg2 arg3 harg3 arg5 harg5 arg6 harg6 x0 x1 x3 x4) (ix3 p o col)
      = weight i x0 x1 x3 x4 p o col := by
  have h0 : (i 0).val < 7 := (i 0).isLt
  have h1 : (i 1).val < 37 := (i 1).isLt
  unfold pointPieces
  refine canon_wpieces _ _ _ _ _ p o col _ fun r c h x l ho hcol => ?_
  have hb : Scalar.addi (Scalar.muli (BitVec.ofNat 32 (i 0).val) 8#32) (BitVec.ofNat 32 (4 * c.val))
      = BitVec.ofNat 32 (8 * (i 0).val + 4 * c.val) := by
    show BitVec.ofNat 32 (i 0).val * BitVec.ofNat 32 8 + BitVec.ofNat 32 (4 * c.val) = _
    rw [← BitVec.ofNat_mul, ← BitVec.ofNat_add, Nat.mul_comm]
  unfold wpiece
  dsimp only
  rw [hb]
  refine (Nf4.tile_apply p h (8 * (i 0).val + 4 * c.val) (by omega) _ (ldScale (F := Ideal) i arg2 harg2 x0 r) _ _ x l).trans ?_
  rw [ldW_apply, ldQ_apply, ldOff_eq, ldScale_eq i arg2 harg2 x0 r _
    ⟨((512 * (i 1).val + o.val) * 56 + (col.val / 32 + 8 * (i 0).val)) / 256, by have := o.isLt; have := col.isLt; omega⟩ (by
      show ((512 * (i 1).val + o.val) * 56 + (col.val / 32 + 8 * (i 0).val)) / 256
        = 112 * (i 1).val + 7 * r.val + ((16 * h.val + x.val) * 56 + (l.val / 32 + (8 * (i 0).val + 4 * c.val))) / 256
      omega)]
  have eo : (⟨32 * r.val + (16 * h.val + x.val), by omega⟩ : Fin 512) = o := Fin.ext (by show 32 * r.val + _ = o.val; omega)
  have ec : (⟨128 * c.val + l.val, by omega⟩ : Fin 256) = col := Fin.ext (by show 128 * c.val + l.val = col.val; omega)
  have eb : (⟨l.val / 32 + (8 * (i 0).val + 4 * c.val), by omega⟩ : Fin 56)
      = ⟨col.val / 32 + 8 * (i 0).val, by have := col.isLt; omega⟩ :=
    Fin.ext (by show l.val / 32 + (8 * (i 0).val + 4 * c.val) = col.val / 32 + 8 * (i 0).val; omega)
  unfold weight
  rw [← eb]
  simp only [eo, ec]

theorem ldWbuf0_apply (o : Fin 512) (col : Fin 256) :
    ldWbuf0 (F := Ideal) arg9 (pointPieces (F := Ideal) i arg2 harg2 arg3 harg3 arg5 harg5 arg6 harg6 x0 x1 x3 x4) (ix3 0 o col)
      = weight i x0 x1 x3 x4 0 o col := by
  unfold ldWbuf0
  rw [View.readCov_eq_canon']
  refine (congrArg _ ?_).trans (wbuf_apply i arg2 harg2 arg3 harg3 arg5 harg5 arg6 harg6 x0 x1 x3 x4 0 o col)
  funext a
  match a with
  | ⟨0, _⟩ => exact Fin.ext rfl
  | ⟨1, _⟩ => exact Fin.ext (by show 0 + 1 * o.val = o.val; omega)
  | ⟨2, _⟩ => exact Fin.ext (by show 0 + 1 * col.val = col.val; omega)
theorem ldWbuf1_apply (o : Fin 512) (col : Fin 256) :
    ldWbuf1 (F := Ideal) arg9 (pointPieces (F := Ideal) i arg2 harg2 arg3 harg3 arg5 harg5 arg6 harg6 x0 x1 x3 x4) (ix3 0 o col)
      = weight i x0 x1 x3 x4 1 o col := by
  unfold ldWbuf1
  rw [View.readCov_eq_canon']
  refine (congrArg _ ?_).trans (wbuf_apply i arg2 harg2 arg3 harg3 arg5 harg5 arg6 harg6 x0 x1 x3 x4 1 o col)
  funext a
  match a with
  | ⟨0, _⟩ => exact Fin.ext rfl
  | ⟨1, _⟩ => exact Fin.ext (by show 0 + 1 * o.val = o.val; omega)
  | ⟨2, _⟩ => exact Fin.ext (by show 0 + 1 * col.val = col.val; omega)

end

/-! ## The accumulator and the result -/

/-- What a point adds to the accumulator: the gradient block times the dequantized weight block. -/
def addend (i : grid0.Coords) (x0 : Vec Ideal S4144 .f32) (x1 : Vec Ideal S1 .f32) (x2 : Vec Ideal S1x256x512 .bf16)
    (x3 : Vec Ideal S512x256 .i8) (x4 : Vec Ideal S512x56 .i8) (y : S2x256x256.Idx) : EReal :=
  ∑ o : Fin 512, x2 (ix3 0 (y 1) o) * weight i x0 x1 x3 x4 (y 0) o (y 2)

section
variable (c : Dev nD) (i : grid0.Coords) (arg2 : Memref sig .tc .smem S4144 .f32) (harg2 : arg2.IsWhole) (arg3 : Memref sig .tc .smem S1 .f32) (harg3 : arg3.IsWhole)
  (arg4 : Memref sig .tc .vmem S1x256x512 .bf16) (harg4 : arg4.IsWhole) (arg5 : Memref sig .tc .vmem S512x256 .i8) (harg5 : arg5.IsWhole)
  (arg6 : Memref sig .tc .vmem S512x56 .i8) (harg6 : arg6.IsWhole) (arg7 : Memref sig .tc .vmem S1x256x512 .bf16) (harg7 : arg7.IsWhole)
  (arg8 : Memref sig .tc .vmem S2x256x256 .f32) (harg8 : arg8.IsWhole) (arg9 : Memref sig .tc .vmem S2x512x256 .bf16) (harg9 : arg9.IsWhole)
  (x0 : Vec Ideal S4144 .f32) (x1 : Vec Ideal S1 .f32) (x2 : Vec Ideal S1x256x512 .bf16) (x3 : Vec Ideal S512x256 .i8) (x4 : Vec Ideal S512x56 .i8)
  (xs0 : Vec Ideal S2x256x256 .f32)

theorem accPieces_apply (y : S2x256x256.Idx) :
    View.canon (Val := Elt Ideal) (accPieces (F := Ideal) (ldAcc0 arg8 harg8 xs0) (ldAcc1 arg8 harg8 xs0) (ldD arg4 harg4 x2)
        (ldWbuf0 arg9 (pointPieces i arg2 harg2 arg3 harg3 arg5 harg5 arg6 harg6 x0 x1 x3 x4))
        (ldWbuf1 arg9 (pointPieces i arg2 harg2 arg3 harg3 arg5 harg5 arg6 harg6 x0 x1 x3 x4))) y
      = xs0 y + addend i x0 x1 x2 x3 x4 y := by
  obtain ⟨p, r, col, rfl⟩ : ∃ p r col, y = ix3 p r col := ⟨_, _, _, eq_ix3 y⟩
  unfold accPieces addend
  match p with
  | 0 =>
    refine (canon_half1_0 _ _ r col).trans ((canon_half0_0 _ _ r col).trans ((pay2_apply _ _ _ r col).trans ?_))
    rw [ldAcc0_apply]
    refine congrArg _ (Finset.sum_congr rfl fun o _ => ?_)
    rw [ldD_apply, ldWbuf0_apply]
  | 1 =>
    refine (canon_half1_1 _ _ r col).trans ((pay2_apply _ _ _ r col).trans ?_)
    rw [ldAcc1_apply]
    refine congrArg _ (Finset.sum_congr rfl fun o _ => ?_)
    rw [ldD_apply, ldWbuf1_apply]

theorem sout_B_apply (hc0 : ¬cond0_0 i) (hc1 : ¬cond0_1 i) (y : S2x256x256.Idx) :
    sout0_B_0 (F := Ideal) c i arg2 harg2 arg3 harg3 arg4 harg4 arg5 harg5 arg6 harg6 arg7 harg7 arg8 harg8 arg9 harg9 hc0 hc1 x0 x1 x2 x3 x4 xs0 y
      = xs0 y + addend i x0 x1 x2 x3 x4 y := by
  unfold sout0_B_0
  rw [View.read_writes_junk_apply_eq_canon, acc_B]
  exact accPieces_apply ..

theorem sout_C_apply (hc0 : ¬cond0_0 i) (hc1 : cond0_1 i) (y : S2x256x256.Idx) :
    sout0_C_0 (F := Ideal) c i arg2 harg2 arg3 harg3 arg4 harg4 arg5 harg5 arg6 harg6 arg7 harg7 arg8 harg8 arg9 harg9 hc0 hc1 x0 x1 x2 x3 x4 xs0 y
      = xs0 y + addend i x0 x1 x2 x3 x4 y := by
  unfold sout0_C_0
  rw [View.read_writes_junk_apply_eq_canon, acc_C]
  exact accPieces_apply ..

theorem zero_apply (y : S2x256x256.Idx) : View.canon (Val := Elt Ideal) (zeroPieces (F := Ideal)) y = (0 : EReal) := by
  unfold zeroPieces
  rw [View.canon_unit_zero (by funext a; match a with | ⟨0, _⟩ => rfl | ⟨1, _⟩ => rfl | ⟨2, _⟩ => rfl)]
  exact Ideal.ofBits_zero_f32

theorem sout_A_apply (hc0 : cond0_0 i) (hc1 : ¬cond0_1 i) (y : S2x256x256.Idx) :
    sout0_A_0 (F := Ideal) c i arg2 harg2 arg3 harg3 arg4 harg4 arg5 harg5 arg6 harg6 arg7 harg7 arg8 harg8 arg9 harg9 hc0 hc1 x0 x1 x2 x3 x4 y
      = 0 + addend i x0 x1 x2 x3 x4 y := by
  unfold sout0_A_0
  rw [View.read_writes_junk_apply_eq_canon, acc_A]
  obtain ⟨p, r, col, rfl⟩ : ∃ p r col, y = ix3 p r col := ⟨_, _, _, eq_ix3 y⟩
  unfold addend
  dsimp only
  match p with
  | 0 =>
    refine (canon_half1_0 _ _ r col).trans ((canon_half0_0 _ _ r col).trans ((pay2_apply _ _ _ r col).trans ?_))
    refine congrArg₂ (· + ·) ?_ (Finset.sum_congr rfl fun o _ => ?_)
    · rw [View.readCov_eq_canon']
      exact zero_apply _
    · rw [ldD_apply, ldWbuf0_apply]
  | 1 =>
    refine (canon_half1_1 _ _ r col).trans ((pay2_apply _ _ _ r col).trans ?_)
    refine congrArg₂ (· + ·) ?_ (Finset.sum_congr rfl fun o _ => ?_)
    · rw [View.readCov_eq_canon']
      refine (congrArg _ (half1_emb r col)).trans ((canon_half0_1 _ _ r col).trans (zero_apply _))
    · rw [ldD_apply, ldWbuf1_apply]

/-- The result block at the last point of a run: column `n` is column `n / 2` of half `n % 2` of the accumulator. -/
theorem out_C_apply (hc0 : ¬cond0_0 i) (hc1 : cond0_1 i) (r : Fin 256) (n : Fin 512) :
    out0_C_5 (F := Ideal) c i arg2 harg2 arg3 harg3 arg4 harg4 arg5 harg5 arg6 harg6 arg7 harg7 arg8 harg8 arg9 harg9 hc0 hc1 x0 x1 x2 x3 x4 xs0 (ix3 0 r n)
      = (fun y : S2x256x256.Idx => xs0 y + addend i x0 x1 x2 x3 x4 y)
          (ix3 ⟨n.val % 2, by omega⟩ r ⟨n.val / 2, by omega⟩) := by
  unfold out0_C_5
  rw [View.read_writes_junk_apply_eq_canon, out_C, acc_C]
  have hn := n.isLt
  refine canon_opieces _ r n _ fun m c' h x l hr hn' => ?_
  rw [Nf4.interleaved_apply]
  have tile (p : Fin 2) (hp : p.val = l.val % 2) : ldAcc (F := Ideal) arg8 (accPieces (ldAcc0 arg8 harg8 xs0) (ldAcc1 arg8 harg8 xs0) (ldD arg4 harg4 x2)
        (ldWbuf0 arg9 (pointPieces i arg2 harg2 arg3 harg3 arg5 harg5 arg6 harg6 x0 x1 x3 x4))
        (ldWbuf1 arg9 (pointPieces i arg2 harg2 arg3 harg3 arg5 harg5 arg6 harg6 x0 x1 x3 x4))) m c' p
        (ix3 0 x ⟨64 * h.val + l.val / 2, by omega⟩)
      = (fun y : S2x256x256.Idx => xs0 y + addend i x0 x1 x2 x3 x4 y) (ix3 ⟨n.val % 2, by omega⟩ r ⟨n.val / 2, by omega⟩) := by
    unfold ldAcc
    rw [View.readCov_eq_canon']
    refine (congrArg _ ?_).trans (accPieces_apply i arg2 harg2 arg3 harg3 arg4 harg4 arg5 harg5 arg6 harg6 arg8 harg8 arg9 x0 x1 x2 x3 x4 xs0 _)
    funext a
    match a with
    | ⟨0, _⟩ => exact Fin.ext (by show p.val + 1 * 0 = n.val % 2; omega)
    | ⟨1, _⟩ => exact Fin.ext (by show 16 * m.val + 1 * x.val = r.val; omega)
    | ⟨2, _⟩ => exact Fin.ext (by show 128 * c'.val + 1 * (64 * h.val + l.val / 2) = n.val / 2; omega)
  by_cases hl : l.val % 2 = 0
  · rw [if_pos hl]; exact tile 0 (by show 0 = _; omega)
  · rw [if_neg hl]; exact tile 1 (by show 1 = _; omega)

end

end Cert.KernelIdeal.Hand
-- ==== Proof.Fold.lean ====
/-
  WHAT THE KERNEL'S RESULT HOLDS on the extended reals. The grid runs 37 blocks of rows under each of 7 blocks of packed
  columns; a block read through its window is the array at the block's offset (`iblk0_apply` … `iblk4_apply`), so what a
  point adds is 512 terms of the product of the gradient with the dequantized weight (`addend_apply`); the accumulator after
  a point is the sum over the points of its run so far (`acc_apply`), and the array at an index is the whole product
  (`G5_apply`), the sum over the 18944 rows taken block by block.
-/
module

public import Idealize.ShloMosaic.Lib.Pointwise.Sums
public import proofs.«01_k».proof.Proof.Point
public import proofs.«01_k».proof.Proof.Reference

@[expose] public section

noncomputable section

namespace Cert.KernelIdeal.Hand

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.KernelIdeal.Value Idealize.SL.Sem
open scoped BigOperators

variable (m : (ℓ : Loc nD τ sig) → Buf (Elt Ideal) ℓ) (c : Dev nD)

/-! ## The blocks -/

theorem lt_N (t : Fin cfg0.N) : t.val < 259 := lt_of_lt_of_eq t.isLt N_0

theorem coord0 (t : Fin cfg0.N) : (grid0.coords t 0).val = t.val / 37 := by
  have h := Pipeline.Grid.coords_val (G := grid0) t 0 (S := 37) (B := 7) (by decide) (by decide)
  have ht := lt_N t
  omega

theorem coord1 (t : Fin cfg0.N) : (grid0.coords t 1).val = t.val % 37 := by
  have h := Pipeline.Grid.coords_val (G := grid0) t 1 (S := 1) (B := 37) (by decide) (by decide)
  omega

theorem word0 (t : Fin cfg0.N) : (BitVec.ofNat 32 (grid0.coords t 0).val).toNat = t.val / 37 := by
  have ht := lt_N t
  rw [BitVec.toNat_ofNat, coord0, Nat.mod_eq_of_lt (by omega)]

theorem word1 (t : Fin cfg0.N) : (BitVec.ofNat 32 (grid0.coords t 1).val).toNat = t.val % 37 := by
  rw [BitVec.toNat_ofNat, coord1, Nat.mod_eq_of_lt (by omega)]

theorem index2 (t : Fin cfg0.N) : win0_2.index t (2 : Fin 3) = t.val % 37 := word1 t
theorem index3_0 (t : Fin cfg0.N) : win0_3.index t (0 : Fin 2) = t.val % 37 := word1 t
theorem index3_1 (t : Fin cfg0.N) : win0_3.index t (1 : Fin 2) = t.val / 37 := word0 t
theorem index4 (t : Fin cfg0.N) : win0_4.index t (0 : Fin 2) = t.val % 37 := word1 t

/-- Row `o` of the point's block of rows. -/
abbrev rowOf (t : Fin cfg0.N) (o : Fin 512) : Fin 18944 := ⟨t.val % 37 * 512 + o.val, by omega⟩
/-- Packed column `n` of the point's block of columns. -/
abbrev colOf (t : Fin cfg0.N) (n : Fin 256) : Fin 1792 := ⟨t.val / 37 * 256 + n.val, by have := lt_N t; omega⟩

theorem iblk0_apply (t : Fin cfg0.N) (g : Fin 4144) : iblk m c 0 t (ix1 g) = m ((c : Thread nD τ).loc main_arg3) (ix1 g) := by
  refine congrArg (m ((c : Thread nD τ).loc main_arg3)) (funext fun a => ?_)
  match a with
  | ⟨0, _⟩ => exact Fin.ext (by show 0 * 4144 + 1 * g.val = g.val; omega)

theorem iblk1_apply (t : Fin cfg0.N) : iblk m c 1 t (ix1 0) = m ((c : Thread nD τ).loc main_arg4) (ix1 0) := by
  refine congrArg (m ((c : Thread nD τ).loc main_arg4)) (funext fun a => ?_)
  match a with
  | ⟨0, _⟩ => rfl

theorem iblk2_apply (t : Fin cfg0.N) (r : Fin 256) (o : Fin 512) :
    iblk m c 2 t (ix3 0 r o) = m ((c : Thread nD τ).loc main_arg0) (ix3 0 r (rowOf t o)) := by
  refine congrArg (m ((c : Thread nD τ).loc main_arg0)) (funext fun a => ?_)
  match a with
  | ⟨0, _⟩ => rfl
  | ⟨1, _⟩ => exact Fin.ext (by show 0 * 256 + 1 * r.val = r.val; omega)
  | ⟨2, _⟩ => exact Fin.ext (by show win0_2.index t (2 : Fin 3) * 512 + 1 * o.val = t.val % 37 * 512 + o.val; rw [index2]; omega)

theorem iblk3_apply (t : Fin cfg0.N) (o : Fin 512) (n : Fin 256) :
    iblk m c 3 t (ix2 o n) = m ((c : Thread nD τ).loc main_arg1) (ix2 (rowOf t o) (colOf t n)) := by
  refine congrArg (m ((c : Thread nD τ).loc main_arg1)) (funext fun a => ?_)
  match a with
  | ⟨0, _⟩ => exact Fin.ext (by show win0_3.index t (0 : Fin 2) * 512 + 1 * o.val = t.val % 37 * 512 + o.val; rw [index3_0]; omega)
  | ⟨1, _⟩ => exact Fin.ext (by show win0_3.index t (1 : Fin 2) * 256 + 1 * n.val = t.val / 37 * 256 + n.val; rw [index3_1]; omega)

theorem iblk4_apply (t : Fin cfg0.N) (o : Fin 512) (b : Fin 56) :
    iblk m c 4 t (ix2 o b) = m ((c : Thread nD τ).loc main_arg2) (ix2 (rowOf t o) b) := by
  refine congrArg (m ((c : Thread nD τ).loc main_arg2)) (funext fun a => ?_)
  match a with
  | ⟨0, _⟩ => exact Fin.ext (by show win0_4.index t (0 : Fin 2) * 512 + 1 * o.val = t.val % 37 * 512 + o.val; rw [index4]; omega)
  | ⟨1, _⟩ => exact Fin.ext (by show 0 * 56 + 1 * b.val = b.val; omega)

/-! ## What a point adds -/

/-- The term of the product that row `o` gives at row `r` of the gradient and packed column `n` of nibble `p`. -/
def term (m : (ℓ : Loc nD τ sig) → Buf (Elt Ideal) ℓ) (c : Dev nD) (p : Fin 2) (r : Fin 256) (n : Fin 1792) (o : Fin 18944) : EReal :=
  let x0 : S1x256x18944.Idx → EReal := m ((c : Thread nD τ).loc main_arg0)
  x0 (ix3 0 r o) *
    ReferenceIdeal.Hand.weight (m ((c : Thread nD τ).loc main_arg1)) (m ((c : Thread nD τ).loc main_arg2)) (m ((c : Thread nD τ).loc main_arg3))
      (m ((c : Thread nD τ).loc main_arg4)) p o n

theorem weight_apply (t : Fin cfg0.N) (p : Fin 2) (o : Fin 512) (n : Fin 256) :
    weight (grid0.coords t) (iblk m c 0 t) (iblk m c 1 t) (iblk m c 3 t) (iblk m c 4 t) p o n =
      ReferenceIdeal.Hand.weight (m ((c : Thread nD τ).loc main_arg1)) (m ((c : Thread nD τ).loc main_arg2)) (m ((c : Thread nD τ).loc main_arg3))
        (m ((c : Thread nD τ).loc main_arg4)) p (rowOf t o) (colOf t n) := by
  have ht := lt_N t
  have h0 := coord0 t
  have h1 := coord1 t
  have eb (h) : (⟨n.val / 32 + 8 * (grid0.coords t 0).val, h⟩ : Fin 56) = ⟨(colOf t n).val / 32, by omega⟩ :=
    Fin.ext (by show n.val / 32 + 8 * (grid0.coords t 0).val = (t.val / 37 * 256 + n.val) / 32; omega)
  have eg (h) : (⟨((512 * (grid0.coords t 1).val + o.val) * 56 + (n.val / 32 + 8 * (grid0.coords t 0).val)) / 256, h⟩ : Fin 4144) =
      ⟨((rowOf t o).val * 56 + (colOf t n).val / 32) / 256, by omega⟩ :=
    Fin.ext (by
      show ((512 * (grid0.coords t 1).val + o.val) * 56 + (n.val / 32 + 8 * (grid0.coords t 0).val)) / 256
        = ((t.val % 37 * 512 + o.val) * 56 + (t.val / 37 * 256 + n.val) / 32) / 256
      rw [h0, h1, show n.val / 32 + 8 * (t.val / 37) = (t.val / 37 * 256 + n.val) / 32 by omega, Nat.mul_comm 512])
  unfold weight ReferenceIdeal.Hand.weight ReferenceIdeal.Hand.absmax
  rw [iblk3_apply, iblk4_apply, iblk0_apply, iblk1_apply, eb, eg]

theorem addend_apply (t : Fin cfg0.N) (p : Fin 2) (r : Fin 256) (n : Fin 256) :
    addend (grid0.coords t) (iblk m c 0 t) (iblk m c 1 t) (iblk m c 2 t) (iblk m c 3 t) (iblk m c 4 t) (ix3 p r n) =
      ∑ o : Fin 512, term m c p r (colOf t n) (rowOf t o) := by
  unfold addend
  exact Finset.sum_congr rfl fun o _ => congrArg₂ (fun a b : EReal => a * b) (iblk2_apply m c t r o) (weight_apply m c t p o n)

/-! ## The accumulator -/

/-- What point `n` adds to the accumulator. -/
def step (n : ℕ) (y : S2x256x256.Idx) : EReal :=
  if h : n < cfg0.N then
    addend (grid0.coords ⟨n, h⟩) (iblk m c 0 ⟨n, h⟩) (iblk m c 1 ⟨n, h⟩) (iblk m c 2 ⟨n, h⟩) (iblk m c 3 ⟨n, h⟩) (iblk m c 4 ⟨n, h⟩) y
  else 0

theorem step_eq (t : Fin cfg0.N) (y : S2x256x256.Idx) :
    step m c t.val y = addend (grid0.coords t) (iblk m c 0 t) (iblk m c 1 t) (iblk m c 2 t) (iblk m c 3 t) (iblk m c 4 t) y :=
  dif_pos t.isLt

/-- The accumulator after a point: the sum over the points of its run so far. -/
theorem acc_apply (t : Fin cfg0.N) (y : S2x256x256.Idx) :
    (outsAt0 m c t.val t.isLt).2 y = ∑ s ∈ Finset.range (t.val % 37 + 1), step m c (37 * (t.val / 37) + s) y := by
  have ht := lt_N t
  rw [soutsAt0_0_eq]
  refine (Pipeline.accAt_add_apply _ _ (fun _ => (0 : EReal)) (step m c) (37 * (t.val / 37)) 36 ?_ ?_ _ (by omega) _ y).trans (zero_add _)
  · intro h y
    have h0 : 37 * (t.val / 37) % 37 = 0 := by omega
    have h1 : ¬37 * (t.val / 37) % 37 = 36 := by omega
    unfold scAt0_0
    rw [dif_pos h0, dif_neg h1]
    exact (sout_A_apply ..).trans (congrArg _ (step_eq m c ⟨_, h⟩ y).symm)
  · intro n h acc y hb he
    have h0 : ¬n % 37 = 0 := by omega
    unfold scAt0_0
    rw [dif_neg h0]
    by_cases h1 : n % 37 = 36
    · rw [dif_pos h1]
      exact (sout_C_apply ..).trans (congrArg _ (step_eq m c ⟨n, h⟩ y).symm)
    · rw [dif_neg h1]
      exact (sout_B_apply ..).trans (congrArg _ (step_eq m c ⟨n, h⟩ y).symm)

/-- The result block at the last point of a run: the sums over the whole run, even and odd columns woven. -/
theorem out_apply (t : Fin cfg0.N) (h1 : t.val % 37 = 36) (r : Fin 256) (n : Fin 512) :
    (outsAt0 m c t.val t.isLt).1 (ix3 0 r n) =
      ∑ s ∈ Finset.range 37, step m c (37 * (t.val / 37) + s) (ix3 ⟨n.val % 2, by omega⟩ r ⟨n.val / 2, by omega⟩) := by
  have ht := lt_N t
  rw [outsAt0_C m c t (by omega) h1]
  dsimp only
  refine (out_C_apply (harg7 := hs0_5 t) (harg9 := Memref.isWhole_whole _) ..).trans ?_
  have e := acc_apply m c ⟨t.val - 1, by omega⟩ (ix3 ⟨n.val % 2, by omega⟩ r ⟨n.val / 2, by omega⟩)
  rw [show (t.val - 1) % 37 + 1 = 36 by omega, show (t.val - 1) / 37 = t.val / 37 by omega] at e
  rw [Finset.sum_range_succ]
  refine congrArg₂ (· + ·) e ?_
  rw [show 37 * (t.val / 37) + 36 = t.val by omega]
  exact (step_eq m c t _).symm

/-! ## The array -/

/-- The product, block of rows by block of rows. -/
theorem product_eq (p : Fin 2) (r : Fin 256) (j : Fin 7) (n : Fin 256) :
    ∑ s ∈ Finset.range 37, step m c (37 * j.val + s) (ix3 p r n) =
      ∑ o : Fin 18944, term m c p r ⟨j.val * 256 + n.val, by omega⟩ o := by
  rw [Fin.sum_univ_tiles 37 512 (by decide), Finset.sum_range]
  refine Finset.sum_congr rfl fun k _ => ?_
  have hN : cfg0.N = 259 := N_0
  have ed : (37 * j.val + k.val) / 37 = j.val := by omega
  have em : (37 * j.val + k.val) % 37 = k.val := by omega
  refine (step_eq m c ⟨37 * j.val + k.val, by omega⟩ _).trans ((addend_apply m c _ p r n).trans ?_)
  refine Finset.sum_congr rfl fun o _ => congrArg₂ (term m c p r) (Fin.ext ?_) (Fin.ext ?_)
  · show (37 * j.val + k.val) / 37 * 256 + n.val = j.val * 256 + n.val
    rw [ed]
  · show (37 * j.val + k.val) % 37 * 512 + o.val = k.val * 512 + o.val
    rw [em]

/-- What the array ends holding: the product of the gradient with the dequantized weight. -/
theorem G5_apply (r : Fin 256) (n : Fin 3584) :
    @Eq EReal (G5 m c (ix3 0 r n)) (∑ o : Fin 18944, term m c ⟨n.val % 2, by omega⟩ r ⟨n.val / 2, by omega⟩ o) := by
  have hN : cfg0.N = 259 := N_0
  have hp : pt5Of (ix3 0 r n) = 37 * (n.val / 512) + 36 := by
    show 37 * (7 * (0 / 1 - 0) + 7 * (r.val / 256 - 0) + 1 * (n.val / 512 - 0)) + 36 = _
    omega
  have hlt : 37 * (n.val / 512) + 36 < cfg0.N := by omega
  have hl : loc5Of (ix3 0 r n) = ix3 0 r ⟨n.val % 512, by omega⟩ := by
    funext a
    match a with
    | ⟨0, _⟩ => rfl
    | ⟨1, _⟩ => exact Fin.ext (by show r.val % 256 = r.val; omega)
    | ⟨2, _⟩ => rfl
  unfold G5
  rw [dif_pos (hp ▸ hlt), hl, fold0_congr m c _ _ (37 * (n.val / 512) + 36) (by omega) hp, ← outsAt0_sweep m c _ hlt]
  refine (out_apply m c ⟨37 * (n.val / 512) + 36, hlt⟩ (by show (37 * (n.val / 512) + 36) % 37 = 36; omega) r _).trans ?_
  have e := product_eq m c ⟨n.val % 512 % 2, by omega⟩ r ⟨n.val / 512, by omega⟩ ⟨n.val % 512 / 2, by omega⟩
  have ep (h) : (⟨n.val % 512 % 2, h⟩ : Fin 2) = ⟨n.val % 2, by omega⟩ := Fin.ext (by show n.val % 512 % 2 = n.val % 2; omega)
  have ec (h) : (⟨n.val / 512 * 256 + n.val % 512 / 2, h⟩ : Fin 1792) = ⟨n.val / 2, by omega⟩ :=
    Fin.ext (by show n.val / 512 * 256 + n.val % 512 / 2 = n.val / 2; omega)
  have ed : (37 * (n.val / 512) + 36) / 37 = n.val / 512 := by omega
  show ∑ s ∈ Finset.range 37, step m c (37 * ((37 * (n.val / 512) + 36) / 37) + s) (ix3 ⟨n.val % 512 % 2, _⟩ r ⟨n.val % 512 / 2, _⟩) = _
  rw [ed]
  refine e.trans ?_
  show ∑ o : Fin 18944, term m c ⟨n.val % 512 % 2, _⟩ r ⟨n.val / 512 * 256 + n.val % 512 / 2, _⟩ o = _
  rw [ep, ec]

end Cert.KernelIdeal.Hand
-- ==== Proof.lean ====
/-
  The certificate, assembled. `G5_eq`: the array the kernel leaves (`Hand.G5_apply`, proof/Proof/Fold.lean) is the
  reference's result (`Hand.result_apply`, proof/Proof/Reference.lean), index by index: both are the sum over the 18944 rows of
  the gradient times the dequantized weight. The frame claims are the generated frames; the reference's is its run weakened.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Reference
public import proofs.«01_k».proof.Proof.Fold
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel leaves is what the reference computes of the same arguments. -/
theorem G5_eq (m : (ℓ : Loc Cert.KernelIdeal.nD Cert.KernelIdeal.τ Cert.KernelIdeal.sig) → Buf (Elt Ideal) ℓ) (c : Dev Cert.KernelIdeal.nD) :
    Cert.KernelIdeal.Value.G5 m c = Cert.ReferenceIdeal.Read.val_main_v110 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  funext i
  obtain ⟨u, r, n, rfl⟩ : ∃ (u : Fin 1) (r : Fin 256) (n : Fin 3584), i = ValueIdx.ix3 u r n := ⟨_, _, _, ValueIdx.eq_ix3 i⟩
  obtain rfl : u = 0 := Subsingleton.elim _ _
  exact (Cert.KernelIdeal.Hand.G5_apply m c r n).trans (Cert.ReferenceIdeal.Hand.result_apply _ _ _ _ _ r n).symm

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4⟩ := hagree c
  refine (h c).1.trans ((Cert.ReferenceIdeal.Read.val_main_v110_eq _).trans ?_)
  exact (congr (congr (congr (congr (congrArg (Cert.ReferenceIdeal.Read.val_main_v110 (F := Ideal)) e0) e1) e2) e3) e4).trans (G5_eq m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
